-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 8192]⟩ ⟨2, ![8192, 8192]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![8192, 256]⟩ ⟨2, ![8192, 4096]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 256]⟩ ⟨2, ![8192, 4096]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x8192 : Shape := ⟨2, ![512, 8192]⟩
abbrev S8192x256 : Shape := ⟨2, ![8192, 256]⟩
abbrev S4x16 : Shape := ⟨2, ![4, 16]⟩
abbrev S4x3x128x8192 : Shape := ⟨4, ![4, 3, 128, 8192]⟩
abbrev S4x3 : Shape := ⟨2, ![4, 3]⟩
abbrev S4 : Shape := ⟨1, ![4]⟩
abbrev S1x1 : Shape := ⟨2, ![1, 1]⟩
abbrev S128x8192 : Shape := ⟨2, ![128, 8192]⟩
abbrev S1x1x128x8192 : Shape := ⟨4, ![1, 1, 128, 8192]⟩
abbrev S_ : Shape := ⟨0, ![]⟩
abbrev S128x256 : Shape := ⟨2, ![128, 256]⟩
abbrev S1 : Shape := ⟨1, ![1]⟩

abbrev nBuf : Space → Nat
  | .hbm => 4
  | .vmem => 5
  | .smem => 1
  | _ => 0

abbrev bufTy : (tb : Table) → Fin (tcTables nBuf tb) → BufTy
  | .hbm, ⟨0, _⟩ => ⟨S512x8192, .bf16⟩
  | .hbm, ⟨1, _⟩ => ⟨S8192x256, .bf16⟩
  | .hbm, ⟨2, _⟩ => ⟨S4x16, .i32⟩
  | .hbm, ⟨3, _⟩ => ⟨S8192x256, .f32⟩
  | .local _ .vmem, ⟨0, _⟩ => ⟨S512x8192, .bf16⟩
  | .local _ .vmem, ⟨1, _⟩ => ⟨S8192x256, .bf16⟩
  | .local _ .vmem, ⟨2, _⟩ => ⟨S8192x256, .f32⟩
  | .local _ .vmem, ⟨3, _⟩ => ⟨S4x3x128x8192, .bf16⟩
  | .local _ .vmem, ⟨4, _⟩ => ⟨S8192x256, .bf16⟩
  | .local _ .smem, ⟨0, _⟩ => ⟨S4x16, .i32⟩
  | _, _ => ⟨S512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 5 28 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 4

abbrev nD : Nat := 16
abbrev τ : Topo := Topo.v7x

variable {F : FTy → Type} [FloatOps F]

abbrev grid0 : Pipeline.Grid := .none

def k0_off1 (d0 : Dev nD) : Fin 2 → Nat :=
  let c0 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : Index := Scalar.indexCast v2
  ![0, v3.toNat]
def k0_off2 (d0 : Dev nD) : Fin 2 → Nat :=
  let c1 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v5 : Index := Scalar.indexCast v2
  ![1, v5.toNat]
def k0_off3 (d0 : Dev nD) : Fin 2 → Nat :=
  let c2 : Index := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v7 : Index := Scalar.indexCast v2
  ![2, v7.toNat]
def k0_dev1 (v4 : BitVec 32) : Nat :=
  let c0_i32 : BitVec 32 := 0#32
  let c1_i32_12 : BitVec 32 := 1#32
  let v20 : BitVec 32 := Scalar.muli v4 c1_i32_12
  let v21 : BitVec 32 := Scalar.addi c0_i32 v20
  v21.toNat

def k0_dev2 (v6 : BitVec 32) : Nat :=
  let c0_i32_15 : BitVec 32 := 0#32
  let c1_i32_14 : BitVec 32 := 1#32
  let v22 : BitVec 32 := Scalar.muli v6 c1_i32_14
  let v23 : BitVec 32 := Scalar.addi c0_i32_15 v22
  v23.toNat

def k0_dev3 (v4 : BitVec 32) : Nat :=
  let c0_i32_25 : BitVec 32 := 0#32
  let c1_i32_24 : BitVec 32 := 1#32
  let v24 : BitVec 32 := Scalar.muli v4 c1_i32_24
  let v25 : BitVec 32 := Scalar.addi c0_i32_25 v24
  v25.toNat
def k0_dev4 (v6 : BitVec 32) : Nat :=
  let c0_i32_39 : BitVec 32 := 0#32
  let c1_i32_38 : BitVec 32 := 1#32
  let v34 : BitVec 32 := Scalar.muli v6 c1_i32_38
  let v35 : BitVec 32 := Scalar.addi c0_i32_39 v34
  v35.toNat
def k0_dev5 (v4 : BitVec 32) : Nat :=
  let c0_i32_58 : BitVec 32 := 0#32
  let c1_i32_57 : BitVec 32 := 1#32
  let v49 : BitVec 32 := Scalar.muli v4 c1_i32_57
  let v50 : BitVec 32 := Scalar.addi c0_i32_58 v49
  v50.toNat
def k0_dev6 (v6 : BitVec 32) : Nat :=
  let c0_i32_75 : BitVec 32 := 0#32
  let c1_i32_74 : BitVec 32 := 1#32
  let v64 : BitVec 32 := Scalar.muli v6 c1_i32_74
  let v65 : BitVec 32 := Scalar.addi c0_i32_75 v64
  v65.toNat
def k0_off4 (d0 : Dev nD) (c0_i32_93 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32 : BitVec 32 := 512#32
  let v91 : BitVec 32 := Scalar.muli v2 c512_i32
  let v92 : BitVec 32 := Scalar.addi v91 c0_i32_93
  let v93 : Index := Scalar.indexCast v92
  let c0_94 : Index := 0#32
  ![v93.toNat, 0]
@[reducible] def k0_t1_loop : Scf.Loop 32 :=
  let c0_i32_131 : BitVec 32 := 0#32
  let c15_i32 : BitVec 32 := 15#32
  let v143 : BitVec 32 := Scalar.addi c0_i32_131 c15_i32
  let c1_i32_132 : BitVec 32 := 1#32
  ⟨c0_i32_131, v143, c1_i32_132⟩
def k0_off5 (k0_t1 : Fin k0_t1_loop.trips) : Fin 2 → Nat :=
  let c0_i32_142 : BitVec 32 := 0#32
  let c0_i32_131 : BitVec 32 := 0#32
  let c1_i32_132 : BitVec 32 := 1#32
  let arg9 : BitVec 32 := Scf.iv c0_i32_131 c1_i32_132 k0_t1
  let c1_i32_138 : BitVec 32 := 1#32
  let v148 : BitVec 32 := Scalar.addi arg9 c1_i32_138
  let c3_i32_139 : BitVec 32 := 3#32
  let v149 : BitVec 32 := Scalar.remsi v148 c3_i32_139
  ![0, v149.toNat]
def k0_off6 (k0_t1 : Fin k0_t1_loop.trips) : Fin 4 → Nat :=
  let c0_i32_141 : BitVec 32 := 0#32
  let c0_i32_131 : BitVec 32 := 0#32
  let c1_i32_132 : BitVec 32 := 1#32
  let arg9 : BitVec 32 := Scf.iv c0_i32_131 c1_i32_132 k0_t1
  let c1_i32_135 : BitVec 32 := 1#32
  let v145 : BitVec 32 := Scalar.addi arg9 c1_i32_135
  let c3_i32_136 : BitVec 32 := 3#32
  let v146 : BitVec 32 := Scalar.remsi v145 c3_i32_136
  let c0_i32_146 : BitVec 32 := 0#32
  let c0_i32_147 : BitVec 32 := 0#32
  ![0, v146.toNat, 0, 0]
def k0_off7 (k0_t1 : Fin k0_t1_loop.trips) : Fin 4 → Nat :=
  let c0_i32_140 : BitVec 32 := 0#32
  let c0_i32_131 : BitVec 32 := 0#32
  let c1_i32_132 : BitVec 32 := 1#32
  let arg9 : BitVec 32 := Scf.iv c0_i32_131 c1_i32_132 k0_t1
  let c3_i32_134 : BitVec 32 := 3#32
  let v144 : BitVec 32 := Scalar.remsi arg9 c3_i32_134
  let c0_i32_148 : BitVec 32 := 0#32
  let c0_i32_149 : BitVec 32 := 0#32
  ![0, v144.toNat, 0, 0]
def k0_off8 (k0_t1 : Fin k0_t1_loop.trips) : Fin 2 → Nat :=
  let c0_i32_152 : BitVec 32 := 0#32
  let c0_i32_131 : BitVec 32 := 0#32
  let c1_i32_132 : BitVec 32 := 1#32
  let arg9 : BitVec 32 := Scf.iv c0_i32_131 c1_i32_132 k0_t1
  let c3_i32_137 : BitVec 32 := 3#32
  let v147 : BitVec 32 := Scalar.remsi arg9 c3_i32_137
  ![0, v147.toNat]
def k0_off9 (k0_t1 : Fin k0_t1_loop.trips) : Fin 2 → Nat :=
  let c2_i32_167 : BitVec 32 := 2#32
  let c0_i32_131 : BitVec 32 := 0#32
  let c1_i32_132 : BitVec 32 := 1#32
  let arg9 : BitVec 32 := Scf.iv c0_i32_131 c1_i32_132 k0_t1
  let c1_i32_163 : BitVec 32 := 1#32
  let v168 : BitVec 32 := Scalar.addi arg9 c1_i32_163
  let c3_i32_164 : BitVec 32 := 3#32
  let v169 : BitVec 32 := Scalar.remsi v168 c3_i32_164
  ![2, v169.toNat]
def k0_off10 (k0_t1 : Fin k0_t1_loop.trips) : Fin 4 → Nat :=
  let c2_i32_166 : BitVec 32 := 2#32
  let c0_i32_131 : BitVec 32 := 0#32
  let c1_i32_132 : BitVec 32 := 1#32
  let arg9 : BitVec 32 := Scf.iv c0_i32_131 c1_i32_132 k0_t1
  let c1_i32_160 : BitVec 32 := 1#32
  let v165 : BitVec 32 := Scalar.addi arg9 c1_i32_160
  let c3_i32_161 : BitVec 32 := 3#32
  let v166 : BitVec 32 := Scalar.remsi v165 c3_i32_161
  let c0_i32_171 : BitVec 32 := 0#32
  let c0_i32_172 : BitVec 32 := 0#32
  ![2, v166.toNat, 0, 0]
def k0_off11 (k0_t1 : Fin k0_t1_loop.trips) : Fin 4 → Nat :=
  let c2_i32_165 : BitVec 32 := 2#32
  let c0_i32_131 : BitVec 32 := 0#32
  let c1_i32_132 : BitVec 32 := 1#32
  let arg9 : BitVec 32 := Scf.iv c0_i32_131 c1_i32_132 k0_t1
  let c3_i32_159 : BitVec 32 := 3#32
  let v164 : BitVec 32 := Scalar.remsi arg9 c3_i32_159
  let c0_i32_173 : BitVec 32 := 0#32
  let c0_i32_174 : BitVec 32 := 0#32
  ![2, v164.toNat, 0, 0]
def k0_off12 (k0_t1 : Fin k0_t1_loop.trips) : Fin 2 → Nat :=
  let c2_i32_177 : BitVec 32 := 2#32
  let c0_i32_131 : BitVec 32 := 0#32
  let c1_i32_132 : BitVec 32 := 1#32
  let arg9 : BitVec 32 := Scf.iv c0_i32_131 c1_i32_132 k0_t1
  let c3_i32_162 : BitVec 32 := 3#32
  let v167 : BitVec 32 := Scalar.remsi arg9 c3_i32_162
  ![2, v167.toNat]
def k0_cond1 (k0_t1 : Fin k0_t1_loop.trips) : BitVec 1 :=
  let c0_i32_131 : BitVec 32 := 0#32
  let c1_i32_132 : BitVec 32 := 1#32
  let arg9 : BitVec 32 := Scf.iv c0_i32_131 c1_i32_132 k0_t1
  let c14_i32 : BitVec 32 := 14#32
  let v184 : BitVec 1 := Scalar.cmpi .slt arg9 c14_i32
  let v185 : BitVec 32 := Scalar.extui v184
  let c0_i32_184 : BitVec 32 := 0#32
  let v186 : BitVec 1 := Scalar.cmpi .ne v185 c0_i32_184
  v186

def k0_off13 (k0_t1 : Fin k0_t1_loop.trips) : Fin 2 → Nat :=
  let c0_i32_353 : BitVec 32 := 0#32
  let c0_i32_131 : BitVec 32 := 0#32
  let c1_i32_132 : BitVec 32 := 1#32
  let arg9 : BitVec 32 := Scf.iv c0_i32_131 c1_i32_132 k0_t1
  let c1_i32_343 : BitVec 32 := 1#32
  let v392 : BitVec 32 := Scalar.addi arg9 c1_i32_343
  let c3_i32_347 : BitVec 32 := 3#32
  let v396 : BitVec 32 := Scalar.remsi v392 c3_i32_347
  ![0, v396.toNat]
def k0_off14 (k0_t1 : Fin k0_t1_loop.trips) : Fin 2 → Nat :=
  let c0_i32_352 : BitVec 32 := 0#32
  let c0_i32_131 : BitVec 32 := 0#32
  let c1_i32_132 : BitVec 32 := 1#32
  let arg9 : BitVec 32 := Scf.iv c0_i32_131 c1_i32_132 k0_t1
  let c1_i32_343 : BitVec 32 := 1#32
  let v392 : BitVec 32 := Scalar.addi arg9 c1_i32_343
  let c1_i32_348 : BitVec 32 := 1#32
  let v397 : BitVec 32 := Scalar.addi v392 c1_i32_348
  let c3_i32_349 : BitVec 32 := 3#32
  let v398 : BitVec 32 := Scalar.remsi v397 c3_i32_349
  ![0, v398.toNat]
def k0_off15 (k0_t1 : Fin k0_t1_loop.trips) : Fin 4 → Nat :=
  let c0_i32_351 : BitVec 32 := 0#32
  let c0_i32_131 : BitVec 32 := 0#32
  let c1_i32_132 : BitVec 32 := 1#32
  let arg9 : BitVec 32 := Scf.iv c0_i32_131 c1_i32_132 k0_t1
  let c1_i32_343 : BitVec 32 := 1#32
  let v392 : BitVec 32 := Scalar.addi arg9 c1_i32_343
  let c1_i32_345 : BitVec 32 := 1#32
  let v394 : BitVec 32 := Scalar.addi v392 c1_i32_345
  let c3_i32_346 : BitVec 32 := 3#32
  let v395 : BitVec 32 := Scalar.remsi v394 c3_i32_346
  let c0_i32_356 : BitVec 32 := 0#32
  let c0_i32_357 : BitVec 32 := 0#32
  ![0, v395.toNat, 0, 0]
def k0_off16 (k0_t1 : Fin k0_t1_loop.trips) : Fin 4 → Nat :=
  let c0_i32_350 : BitVec 32 := 0#32
  let c0_i32_131 : BitVec 32 := 0#32
  let c1_i32_132 : BitVec 32 := 1#32
  let arg9 : BitVec 32 := Scf.iv c0_i32_131 c1_i32_132 k0_t1
  let c1_i32_343 : BitVec 32 := 1#32
  let v392 : BitVec 32 := Scalar.addi arg9 c1_i32_343
  let c3_i32_344 : BitVec 32 := 3#32
  let v393 : BitVec 32 := Scalar.remsi v392 c3_i32_344
  let c0_i32_358 : BitVec 32 := 0#32
  let c0_i32_359 : BitVec 32 := 0#32
  ![0, v393.toNat, 0, 0]
def k0_dev7 (v4 : BitVec 32) : Nat :=
  let c0_i32_355 : BitVec 32 := 0#32
  let c1_i32_354 : BitVec 32 := 1#32
  let v399 : BitVec 32 := Scalar.muli v4 c1_i32_354
  let v400 : BitVec 32 := Scalar.addi c0_i32_355 v399
  v400.toNat
def k0_off17 (k0_t1 : Fin k0_t1_loop.trips) : Fin 2 → Nat :=
  let c2_i32_373 : BitVec 32 := 2#32
  let c0_i32_131 : BitVec 32 := 0#32
  let c1_i32_132 : BitVec 32 := 1#32
  let arg9 : BitVec 32 := Scf.iv c0_i32_131 c1_i32_132 k0_t1
  let c1_i32_363 : BitVec 32 := 1#32
  let v413 : BitVec 32 := Scalar.addi arg9 c1_i32_363
  let c3_i32_367 : BitVec 32 := 3#32
  let v417 : BitVec 32 := Scalar.remsi v413 c3_i32_367
  ![2, v417.toNat]
def k0_off18 (k0_t1 : Fin k0_t1_loop.trips) : Fin 2 → Nat :=
  let c2_i32_372 : BitVec 32 := 2#32
  let c0_i32_131 : BitVec 32 := 0#32
  let c1_i32_132 : BitVec 32 := 1#32
  let arg9 : BitVec 32 := Scf.iv c0_i32_131 c1_i32_132 k0_t1
  let c1_i32_363 : BitVec 32 := 1#32
  let v413 : BitVec 32 := Scalar.addi arg9 c1_i32_363
  let c1_i32_368 : BitVec 32 := 1#32
  let v418 : BitVec 32 := Scalar.addi v413 c1_i32_368
  let c3_i32_369 : BitVec 32 := 3#32
  let v419 : BitVec 32 := Scalar.remsi v418 c3_i32_369
  ![2, v419.toNat]
def k0_off19 (k0_t1 : Fin k0_t1_loop.trips) : Fin 4 → Nat :=
  let c2_i32_371 : BitVec 32 := 2#32
  let c0_i32_131 : BitVec 32 := 0#32
  let c1_i32_132 : BitVec 32 := 1#32
  let arg9 : BitVec 32 := Scf.iv c0_i32_131 c1_i32_132 k0_t1
  let c1_i32_363 : BitVec 32 := 1#32
  let v413 : BitVec 32 := Scalar.addi arg9 c1_i32_363
  let c1_i32_365 : BitVec 32 := 1#32
  let v415 : BitVec 32 := Scalar.addi v413 c1_i32_365
  let c3_i32_366 : BitVec 32 := 3#32
  let v416 : BitVec 32 := Scalar.remsi v415 c3_i32_366
  let c0_i32_376 : BitVec 32 := 0#32
  let c0_i32_377 : BitVec 32 := 0#32
  ![2, v416.toNat, 0, 0]
def k0_off20 (k0_t1 : Fin k0_t1_loop.trips) : Fin 4 → Nat :=
  let c2_i32_370 : BitVec 32 := 2#32
  let c0_i32_131 : BitVec 32 := 0#32
  let c1_i32_132 : BitVec 32 := 1#32
  let arg9 : BitVec 32 := Scf.iv c0_i32_131 c1_i32_132 k0_t1
  let c1_i32_363 : BitVec 32 := 1#32
  let v413 : BitVec 32 := Scalar.addi arg9 c1_i32_363
  let c3_i32_364 : BitVec 32 := 3#32
  let v414 : BitVec 32 := Scalar.remsi v413 c3_i32_364
  let c0_i32_378 : BitVec 32 := 0#32
  let c0_i32_379 : BitVec 32 := 0#32
  ![2, v414.toNat, 0, 0]
def k0_dev8 (v6 : BitVec 32) : Nat :=
  let c0_i32_375 : BitVec 32 := 0#32
  let c1_i32_374 : BitVec 32 := 1#32
  let v420 : BitVec 32 := Scalar.muli v6 c1_i32_374
  let v421 : BitVec 32 := Scalar.addi c0_i32_375 v420
  v421.toNat
def k0_cond4 (k0_t1 : Fin k0_t1_loop.trips) : BitVec 1 :=
  let c0_i32_131 : BitVec 32 := 0#32
  let c1_i32_132 : BitVec 32 := 1#32
  let arg9 : BitVec 32 := Scf.iv c0_i32_131 c1_i32_132 k0_t1
  let c3_i32_185 : BitVec 32 := 3#32
  let v187 : BitVec 32 := Scalar.addi arg9 c3_i32_185
  let c1_i32_186 : BitVec 32 := 1#32
  let v188 : BitVec 32 := Scalar.subi v187 c1_i32_186
  let c15_i32_187 : BitVec 32 := 15#32
  let v189 : BitVec 1 := Scalar.cmpi .slt v188 c15_i32_187
  let v190 : BitVec 32 := Scalar.extui v189
  let c0_i32_188 : BitVec 32 := 0#32
  let v191 : BitVec 1 := Scalar.cmpi .ne v190 c0_i32_188
  v191

def k0_dev9 (v6 : BitVec 32) : Nat :=
  let c0_i32_343 : BitVec 32 := 0#32
  let c1_i32_342 : BitVec 32 := 1#32
  let v390 : BitVec 32 := Scalar.muli v6 c1_i32_342
  let v391 : BitVec 32 := Scalar.addi c0_i32_343 v390
  v391.toNat
def k0_dev10 (v4 : BitVec 32) : Nat :=
  let c0_i32_347 : BitVec 32 := 0#32
  let c1_i32_346 : BitVec 32 := 1#32
  let v394 : BitVec 32 := Scalar.muli v4 c1_i32_346
  let v395 : BitVec 32 := Scalar.addi c0_i32_347 v394
  v395.toNat
def k0_off21 (k0_t1 : Fin k0_t1_loop.trips) : Fin 4 → Nat :=
  let c0_196 : Index := 0#32
  let c0_i32_131 : BitVec 32 := 0#32
  let c1_i32_132 : BitVec 32 := 1#32
  let arg9 : BitVec 32 := Scf.iv c0_i32_131 c1_i32_132 k0_t1
  let c1_i32_189 : BitVec 32 := 1#32
  let v192 : BitVec 32 := Scalar.addi arg9 c1_i32_189
  let c3_i32_190 : BitVec 32 := 3#32
  let c0_i32_191 : BitVec 32 := 0#32
  let v193 : BitVec 1 := Scalar.cmpi .eq c3_i32_190 c0_i32_191
  let c1_i32_192 : BitVec 32 := 1#32
  let v194 : BitVec 32 := Scalar.select v193 c1_i32_192 c3_i32_190
  let v195 : BitVec 32 := Scalar.remsi v192 v194
  let c0_i32_194 : BitVec 32 := 0#32
  let v197 : BitVec 1 := Scalar.cmpi .slt v195 c0_i32_194
  let c0_i32_195 : BitVec 32 := 0#32
  let v198 : BitVec 1 := Scalar.cmpi .slt v194 c0_i32_195
  let v199 : BitVec 1 := Scalar.xori v197 v198
  let c0_i32_193 : BitVec 32 := 0#32
  let v196 : BitVec 1 := Scalar.cmpi .ne v195 c0_i32_193
  let v200 : BitVec 1 := Scalar.andi v199 v196
  let v201 : BitVec 32 := Scalar.addi v195 v194
  let v202 : BitVec 32 := Scalar.select v200 v201 v195
  let v203 : Index := Scalar.indexCast v202
  let c0_197 : Index := 0#32
  let c0_198 : Index := 0#32
  ![0, v203.toNat, 0, 0]
def k0_off22 (v8 : BitVec 32) (k0_t1 : Fin k0_t1_loop.trips) : Fin 2 → Nat :=
  let c3_212 : Index := 3#32
  let c32_i32 : BitVec 32 := 32#32
  let v216 : BitVec 32 := Scalar.addi v8 c32_i32
  let c1_i32_205 : BitVec 32 := 1#32
  let v217 : BitVec 32 := Scalar.subi v216 c1_i32_205
  let c0_i32_131 : BitVec 32 := 0#32
  let c1_i32_132 : BitVec 32 := 1#32
  let arg9 : BitVec 32 := Scf.iv c0_i32_131 c1_i32_132 k0_t1
  let v218 : BitVec 32 := Scalar.subi v217 arg9
  let c16_i32_206 : BitVec 32 := 16#32
  let c0_i32_207 : BitVec 32 := 0#32
  let v219 : BitVec 1 := Scalar.cmpi .eq c16_i32_206 c0_i32_207
  let c1_i32_208 : BitVec 32 := 1#32
  let v220 : BitVec 32 := Scalar.select v219 c1_i32_208 c16_i32_206
  let v221 : BitVec 32 := Scalar.remsi v218 v220
  let c0_i32_210 : BitVec 32 := 0#32
  let v223 : BitVec 1 := Scalar.cmpi .slt v221 c0_i32_210
  let c0_i32_211 : BitVec 32 := 0#32
  let v224 : BitVec 1 := Scalar.cmpi .slt v220 c0_i32_211
  let v225 : BitVec 1 := Scalar.xori v223 v224
  let c0_i32_209 : BitVec 32 := 0#32
  let v222 : BitVec 1 := Scalar.cmpi .ne v221 c0_i32_209
  let v226 : BitVec 1 := Scalar.andi v225 v222
  let v227 : BitVec 32 := Scalar.addi v221 v220
  let v228 : BitVec 32 := Scalar.select v226 v227 v221
  let v229 : Index := Scalar.indexCast v228
  ![3, v229.toNat]

def k0_off23 (v230 : BitVec 32) : Fin 2 → Nat :=
  let c512_i32_213 : BitVec 32 := 512#32
  let v231 : BitVec 32 := Scalar.muli v230 c512_i32_213
  let c0_i32_214 : BitVec 32 := 0#32
  let v232 : BitVec 32 := Scalar.addi v231 c0_i32_214
  let v233 : Index := Scalar.indexCast v232
  let c0_215 : Index := 0#32
  ![v233.toNat, 0]

def k0_chk4 (v230 : BitVec 32) : Prop :=
  (∀ a, (k0_off23 v230) a + S128x256.size a ≤ S8192x256.size a)
theorem k0_off23_inb : ∀ (v230 : BitVec 32) (k0_hw4 : k0_chk4 v230), ∀ a, (k0_off23 v230) a + S128x256.size a ≤ S8192x256.size a := fun v230 k0_hw4 => k0_hw4

def k0_off24 (k0_t1 : Fin k0_t1_loop.trips) : Fin 4 → Nat :=
  let c2_216 : Index := 2#32
  let c0_i32_131 : BitVec 32 := 0#32
  let c1_i32_132 : BitVec 32 := 1#32
  let arg9 : BitVec 32 := Scf.iv c0_i32_131 c1_i32_132 k0_t1
  let c1_i32_189 : BitVec 32 := 1#32
  let v192 : BitVec 32 := Scalar.addi arg9 c1_i32_189
  let c3_i32_190 : BitVec 32 := 3#32
  let c0_i32_191 : BitVec 32 := 0#32
  let v193 : BitVec 1 := Scalar.cmpi .eq c3_i32_190 c0_i32_191
  let c1_i32_192 : BitVec 32 := 1#32
  let v194 : BitVec 32 := Scalar.select v193 c1_i32_192 c3_i32_190
  let v195 : BitVec 32 := Scalar.remsi v192 v194
  let c0_i32_194 : BitVec 32 := 0#32
  let v197 : BitVec 1 := Scalar.cmpi .slt v195 c0_i32_194
  let c0_i32_195 : BitVec 32 := 0#32
  let v198 : BitVec 1 := Scalar.cmpi .slt v194 c0_i32_195
  let v199 : BitVec 1 := Scalar.xori v197 v198
  let c0_i32_193 : BitVec 32 := 0#32
  let v196 : BitVec 1 := Scalar.cmpi .ne v195 c0_i32_193
  let v200 : BitVec 1 := Scalar.andi v199 v196
  let v201 : BitVec 32 := Scalar.addi v195 v194
  let v202 : BitVec 32 := Scalar.select v200 v201 v195
  let v235 : Index := Scalar.indexCast v202
  let c0_217 : Index := 0#32
  let c0_218 : Index := 0#32
  ![2, v235.toNat, 0, 0]
def k0_off25 (v8 : BitVec 32) (k0_t1 : Fin k0_t1_loop.trips) : Fin 2 → Nat :=
  let c3_232 : Index := 3#32
  let c1_i32_225 : BitVec 32 := 1#32
  let v248 : BitVec 32 := Scalar.addi v8 c1_i32_225
  let c0_i32_131 : BitVec 32 := 0#32
  let c1_i32_132 : BitVec 32 := 1#32
  let arg9 : BitVec 32 := Scf.iv c0_i32_131 c1_i32_132 k0_t1
  let v249 : BitVec 32 := Scalar.addi v248 arg9
  let c16_i32_226 : BitVec 32 := 16#32
  let c0_i32_227 : BitVec 32 := 0#32
  let v250 : BitVec 1 := Scalar.cmpi .eq c16_i32_226 c0_i32_227
  let c1_i32_228 : BitVec 32 := 1#32
  let v251 : BitVec 32 := Scalar.select v250 c1_i32_228 c16_i32_226
  let v252 : BitVec 32 := Scalar.remsi v249 v251
  let c0_i32_230 : BitVec 32 := 0#32
  let v254 : BitVec 1 := Scalar.cmpi .slt v252 c0_i32_230
  let c0_i32_231 : BitVec 32 := 0#32
  let v255 : BitVec 1 := Scalar.cmpi .slt v251 c0_i32_231
  let v256 : BitVec 1 := Scalar.xori v254 v255
  let c0_i32_229 : BitVec 32 := 0#32
  let v253 : BitVec 1 := Scalar.cmpi .ne v252 c0_i32_229
  let v257 : BitVec 1 := Scalar.andi v256 v253
  let v258 : BitVec 32 := Scalar.addi v252 v251
  let v259 : BitVec 32 := Scalar.select v257 v258 v252
  let v260 : Index := Scalar.indexCast v259
  ![3, v260.toNat]
def k0_off26 (v261 : BitVec 32) : Fin 2 → Nat :=
  let c512_i32_233 : BitVec 32 := 512#32
  let v262 : BitVec 32 := Scalar.muli v261 c512_i32_233
  let c256_i32_234 : BitVec 32 := 256#32
  let v263 : BitVec 32 := Scalar.addi v262 c256_i32_234
  let v264 : Index := Scalar.indexCast v263
  let c0_235 : Index := 0#32
  ![v264.toNat, 0]

def k0_chk5 (v261 : BitVec 32) : Prop :=
  (∀ a, (k0_off26 v261) a + S128x256.size a ≤ S8192x256.size a)
theorem k0_off26_inb : ∀ (v261 : BitVec 32) (k0_hw5 : k0_chk5 v261), ∀ a, (k0_off26 v261) a + S128x256.size a ≤ S8192x256.size a := fun v261 k0_hw5 => k0_hw5

def k0_off27 (k0_t1 : Fin k0_t1_loop.trips) : Fin 2 → Nat :=
  let c1_i32_244 : BitVec 32 := 1#32
  let c0_i32_131 : BitVec 32 := 0#32
  let c1_i32_132 : BitVec 32 := 1#32
  let arg9 : BitVec 32 := Scf.iv c0_i32_131 c1_i32_132 k0_t1
  let c1_i32_240 : BitVec 32 := 1#32
  let v270 : BitVec 32 := Scalar.addi arg9 c1_i32_240
  let c3_i32_241 : BitVec 32 := 3#32
  let v271 : BitVec 32 := Scalar.remsi v270 c3_i32_241
  ![1, v271.toNat]
def k0_off28 (k0_t1 : Fin k0_t1_loop.trips) : Fin 4 → Nat :=
  let c1_i32_243 : BitVec 32 := 1#32
  let c0_i32_131 : BitVec 32 := 0#32
  let c1_i32_132 : BitVec 32 := 1#32
  let arg9 : BitVec 32 := Scf.iv c0_i32_131 c1_i32_132 k0_t1
  let c1_i32_237 : BitVec 32 := 1#32
  let v267 : BitVec 32 := Scalar.addi arg9 c1_i32_237
  let c3_i32_238 : BitVec 32 := 3#32
  let v268 : BitVec 32 := Scalar.remsi v267 c3_i32_238
  let c0_i32_248 : BitVec 32 := 0#32
  let c0_i32_249 : BitVec 32 := 0#32
  ![1, v268.toNat, 0, 0]
def k0_off29 (k0_t1 : Fin k0_t1_loop.trips) : Fin 4 → Nat :=
  let c1_i32_242 : BitVec 32 := 1#32
  let c0_i32_131 : BitVec 32 := 0#32
  let c1_i32_132 : BitVec 32 := 1#32
  let arg9 : BitVec 32 := Scf.iv c0_i32_131 c1_i32_132 k0_t1
  let c3_i32_236 : BitVec 32 := 3#32
  let v266 : BitVec 32 := Scalar.remsi arg9 c3_i32_236
  let c0_i32_250 : BitVec 32 := 0#32
  let c0_i32_251 : BitVec 32 := 0#32
  ![1, v266.toNat, 0, 0]
def k0_off30 (k0_t1 : Fin k0_t1_loop.trips) : Fin 2 → Nat :=
  let c1_i32_254 : BitVec 32 := 1#32
  let c0_i32_131 : BitVec 32 := 0#32
  let c1_i32_132 : BitVec 32 := 1#32
  let arg9 : BitVec 32 := Scf.iv c0_i32_131 c1_i32_132 k0_t1
  let c3_i32_239 : BitVec 32 := 3#32
  let v269 : BitVec 32 := Scalar.remsi arg9 c3_i32_239
  ![1, v269.toNat]
def k0_off31 (k0_t1 : Fin k0_t1_loop.trips) : Fin 2 → Nat :=
  let c3_i32_269 : BitVec 32 := 3#32
  let c0_i32_131 : BitVec 32 := 0#32
  let c1_i32_132 : BitVec 32 := 1#32
  let arg9 : BitVec 32 := Scf.iv c0_i32_131 c1_i32_132 k0_t1
  let c1_i32_265 : BitVec 32 := 1#32
  let v290 : BitVec 32 := Scalar.addi arg9 c1_i32_265
  let c3_i32_266 : BitVec 32 := 3#32
  let v291 : BitVec 32 := Scalar.remsi v290 c3_i32_266
  ![3, v291.toNat]
def k0_off32 (k0_t1 : Fin k0_t1_loop.trips) : Fin 4 → Nat :=
  let c3_i32_268 : BitVec 32 := 3#32
  let c0_i32_131 : BitVec 32 := 0#32
  let c1_i32_132 : BitVec 32 := 1#32
  let arg9 : BitVec 32 := Scf.iv c0_i32_131 c1_i32_132 k0_t1
  let c1_i32_262 : BitVec 32 := 1#32
  let v287 : BitVec 32 := Scalar.addi arg9 c1_i32_262
  let c3_i32_263 : BitVec 32 := 3#32
  let v288 : BitVec 32 := Scalar.remsi v287 c3_i32_263
  let c0_i32_273 : BitVec 32 := 0#32
  let c0_i32_274 : BitVec 32 := 0#32
  ![3, v288.toNat, 0, 0]
def k0_off33 (k0_t1 : Fin k0_t1_loop.trips) : Fin 4 → Nat :=
  let c3_i32_267 : BitVec 32 := 3#32
  let c0_i32_131 : BitVec 32 := 0#32
  let c1_i32_132 : BitVec 32 := 1#32
  let arg9 : BitVec 32 := Scf.iv c0_i32_131 c1_i32_132 k0_t1
  let c3_i32_261 : BitVec 32 := 3#32
  let v286 : BitVec 32 := Scalar.remsi arg9 c3_i32_261
  let c0_i32_275 : BitVec 32 := 0#32
  let c0_i32_276 : BitVec 32 := 0#32
  ![3, v286.toNat, 0, 0]
def k0_off34 (k0_t1 : Fin k0_t1_loop.trips) : Fin 2 → Nat :=
  let c3_i32_279 : BitVec 32 := 3#32
  let c0_i32_131 : BitVec 32 := 0#32
  let c1_i32_132 : BitVec 32 := 1#32
  let arg9 : BitVec 32 := Scf.iv c0_i32_131 c1_i32_132 k0_t1
  let c3_i32_264 : BitVec 32 := 3#32
  let v289 : BitVec 32 := Scalar.remsi arg9 c3_i32_264
  ![3, v289.toNat]
def k0_cond5 (k0_t1 : Fin k0_t1_loop.trips) : BitVec 1 :=
  let c0_i32_131 : BitVec 32 := 0#32
  let c1_i32_132 : BitVec 32 := 1#32
  let arg9 : BitVec 32 := Scf.iv c0_i32_131 c1_i32_132 k0_t1
  let c14_i32_286 : BitVec 32 := 14#32
  let v306 : BitVec 1 := Scalar.cmpi .slt arg9 c14_i32_286
  let v307 : BitVec 32 := Scalar.extui v306
  let c0_i32_287 : BitVec 32 := 0#32
  let v308 : BitVec 1 := Scalar.cmpi .ne v307 c0_i32_287
  v308

def k0_off35 (k0_t1 : Fin k0_t1_loop.trips) : Fin 2 → Nat :=
  let c1_i32_353 : BitVec 32 := 1#32
  let c0_i32_131 : BitVec 32 := 0#32
  let c1_i32_132 : BitVec 32 := 1#32
  let arg9 : BitVec 32 := Scf.iv c0_i32_131 c1_i32_132 k0_t1
  let c1_i32_343 : BitVec 32 := 1#32
  let v392 : BitVec 32 := Scalar.addi arg9 c1_i32_343
  let c3_i32_347 : BitVec 32 := 3#32
  let v396 : BitVec 32 := Scalar.remsi v392 c3_i32_347
  ![1, v396.toNat]
def k0_off36 (k0_t1 : Fin k0_t1_loop.trips) : Fin 2 → Nat :=
  let c1_i32_352 : BitVec 32 := 1#32
  let c0_i32_131 : BitVec 32 := 0#32
  let c1_i32_132 : BitVec 32 := 1#32
  let arg9 : BitVec 32 := Scf.iv c0_i32_131 c1_i32_132 k0_t1
  let c1_i32_343 : BitVec 32 := 1#32
  let v392 : BitVec 32 := Scalar.addi arg9 c1_i32_343
  let c1_i32_348 : BitVec 32 := 1#32
  let v397 : BitVec 32 := Scalar.addi v392 c1_i32_348
  let c3_i32_349 : BitVec 32 := 3#32
  let v398 : BitVec 32 := Scalar.remsi v397 c3_i32_349
  ![1, v398.toNat]
def k0_off37 (k0_t1 : Fin k0_t1_loop.trips) : Fin 4 → Nat :=
  let c1_i32_351 : BitVec 32 := 1#32
  let c0_i32_131 : BitVec 32 := 0#32
  let c1_i32_132 : BitVec 32 := 1#32
  let arg9 : BitVec 32 := Scf.iv c0_i32_131 c1_i32_132 k0_t1
  let c1_i32_343 : BitVec 32 := 1#32
  let v392 : BitVec 32 := Scalar.addi arg9 c1_i32_343
  let c1_i32_345 : BitVec 32 := 1#32
  let v394 : BitVec 32 := Scalar.addi v392 c1_i32_345
  let c3_i32_346 : BitVec 32 := 3#32
  let v395 : BitVec 32 := Scalar.remsi v394 c3_i32_346
  let c0_i32_356 : BitVec 32 := 0#32
  let c0_i32_357 : BitVec 32 := 0#32
  ![1, v395.toNat, 0, 0]
def k0_off38 (k0_t1 : Fin k0_t1_loop.trips) : Fin 4 → Nat :=
  let c1_i32_350 : BitVec 32 := 1#32
  let c0_i32_131 : BitVec 32 := 0#32
  let c1_i32_132 : BitVec 32 := 1#32
  let arg9 : BitVec 32 := Scf.iv c0_i32_131 c1_i32_132 k0_t1
  let c1_i32_343 : BitVec 32 := 1#32
  let v392 : BitVec 32 := Scalar.addi arg9 c1_i32_343
  let c3_i32_344 : BitVec 32 := 3#32
  let v393 : BitVec 32 := Scalar.remsi v392 c3_i32_344
  let c0_i32_358 : BitVec 32 := 0#32
  let c0_i32_359 : BitVec 32 := 0#32
  ![1, v393.toNat, 0, 0]
def k0_dev11 (v4 : BitVec 32) : Nat :=
  let c0_i32_355 : BitVec 32 := 0#32
  let c1_i32_354 : BitVec 32 := 1#32
  let v399 : BitVec 32 := Scalar.muli v4 c1_i32_354
  let v400 : BitVec 32 := Scalar.addi c0_i32_355 v399
  v400.toNat
def k0_off39 (k0_t1 : Fin k0_t1_loop.trips) : Fin 2 → Nat :=
  let c3_i32_373 : BitVec 32 := 3#32
  let c0_i32_131 : BitVec 32 := 0#32
  let c1_i32_132 : BitVec 32 := 1#32
  let arg9 : BitVec 32 := Scf.iv c0_i32_131 c1_i32_132 k0_t1
  let c1_i32_363 : BitVec 32 := 1#32
  let v413 : BitVec 32 := Scalar.addi arg9 c1_i32_363
  let c3_i32_367 : BitVec 32 := 3#32
  let v417 : BitVec 32 := Scalar.remsi v413 c3_i32_367
  ![3, v417.toNat]
def k0_off40 (k0_t1 : Fin k0_t1_loop.trips) : Fin 2 → Nat :=
  let c3_i32_372 : BitVec 32 := 3#32
  let c0_i32_131 : BitVec 32 := 0#32
  let c1_i32_132 : BitVec 32 := 1#32
  let arg9 : BitVec 32 := Scf.iv c0_i32_131 c1_i32_132 k0_t1
  let c1_i32_363 : BitVec 32 := 1#32
  let v413 : BitVec 32 := Scalar.addi arg9 c1_i32_363
  let c1_i32_368 : BitVec 32 := 1#32
  let v418 : BitVec 32 := Scalar.addi v413 c1_i32_368
  let c3_i32_369 : BitVec 32 := 3#32
  let v419 : BitVec 32 := Scalar.remsi v418 c3_i32_369
  ![3, v419.toNat]
def k0_off41 (k0_t1 : Fin k0_t1_loop.trips) : Fin 4 → Nat :=
  let c3_i32_371 : BitVec 32 := 3#32
  let c0_i32_131 : BitVec 32 := 0#32
  let c1_i32_132 : BitVec 32 := 1#32
  let arg9 : BitVec 32 := Scf.iv c0_i32_131 c1_i32_132 k0_t1
  let c1_i32_363 : BitVec 32 := 1#32
  let v413 : BitVec 32 := Scalar.addi arg9 c1_i32_363
  let c1_i32_365 : BitVec 32 := 1#32
  let v415 : BitVec 32 := Scalar.addi v413 c1_i32_365
  let c3_i32_366 : BitVec 32 := 3#32
  let v416 : BitVec 32 := Scalar.remsi v415 c3_i32_366
  let c0_i32_376 : BitVec 32 := 0#32
  let c0_i32_377 : BitVec 32 := 0#32
  ![3, v416.toNat, 0, 0]
def k0_off42 (k0_t1 : Fin k0_t1_loop.trips) : Fin 4 → Nat :=
  let c3_i32_370 : BitVec 32 := 3#32
  let c0_i32_131 : BitVec 32 := 0#32
  let c1_i32_132 : BitVec 32 := 1#32
  let arg9 : BitVec 32 := Scf.iv c0_i32_131 c1_i32_132 k0_t1
  let c1_i32_363 : BitVec 32 := 1#32
  let v413 : BitVec 32 := Scalar.addi arg9 c1_i32_363
  let c3_i32_364 : BitVec 32 := 3#32
  let v414 : BitVec 32 := Scalar.remsi v413 c3_i32_364
  let c0_i32_378 : BitVec 32 := 0#32
  let c0_i32_379 : BitVec 32 := 0#32
  ![3, v414.toNat, 0, 0]
def k0_dev12 (v6 : BitVec 32) : Nat :=
  let c0_i32_375 : BitVec 32 := 0#32
  let c1_i32_374 : BitVec 32 := 1#32
  let v420 : BitVec 32 := Scalar.muli v6 c1_i32_374
  let v421 : BitVec 32 := Scalar.addi c0_i32_375 v420
  v421.toNat
def k0_cond8 (k0_t1 : Fin k0_t1_loop.trips) : BitVec 1 :=
  let c0_i32_131 : BitVec 32 := 0#32
  let c1_i32_132 : BitVec 32 := 1#32
  let arg9 : BitVec 32 := Scf.iv c0_i32_131 c1_i32_132 k0_t1
  let c3_i32_288 : BitVec 32 := 3#32
  let v309 : BitVec 32 := Scalar.addi arg9 c3_i32_288
  let c1_i32_289 : BitVec 32 := 1#32
  let v310 : BitVec 32 := Scalar.subi v309 c1_i32_289
  let c15_i32_290 : BitVec 32 := 15#32
  let v311 : BitVec 1 := Scalar.cmpi .slt v310 c15_i32_290
  let v312 : BitVec 32 := Scalar.extui v311
  let c0_i32_291 : BitVec 32 := 0#32
  let v313 : BitVec 1 := Scalar.cmpi .ne v312 c0_i32_291
  v313

def k0_dev13 (v6 : BitVec 32) : Nat :=
  let c0_i32_343 : BitVec 32 := 0#32
  let c1_i32_342 : BitVec 32 := 1#32
  let v390 : BitVec 32 := Scalar.muli v6 c1_i32_342
  let v391 : BitVec 32 := Scalar.addi c0_i32_343 v390
  v391.toNat

def k0_chk2 (v6 : BitVec 32) : Prop :=
  ((k0_dev2 v6) < nD) ∧
  ((k0_dev4 v6) < nD) ∧
  ((k0_dev6 v6) < nD) ∧
  (∀ k0_t1 : Fin k0_t1_loop.trips, ∀ (k0_h1 : k0_cond1 k0_t1 = 1#1), (k0_dev8 v6) < nD) ∧
  (∀ k0_t1 : Fin k0_t1_loop.trips, ∀ (k0_h4 : k0_cond4 k0_t1 = 1#1), (k0_dev9 v6) < nD) ∧
  (∀ k0_t1 : Fin k0_t1_loop.trips, ∀ (k0_h5 : k0_cond5 k0_t1 = 1#1), (k0_dev12 v6) < nD) ∧
  (∀ k0_t1 : Fin k0_t1_loop.trips, ∀ (k0_h8 : k0_cond8 k0_t1 = 1#1), (k0_dev13 v6) < nD)
theorem k0_dev2_lt : ∀ (v6 : BitVec 32) (k0_hw2 : k0_chk2 v6), (k0_dev2 v6) < nD := fun v6 k0_hw2 => k0_hw2.1
theorem k0_dev4_lt : ∀ (v6 : BitVec 32) (k0_hw2 : k0_chk2 v6), (k0_dev4 v6) < nD := fun v6 k0_hw2 => k0_hw2.2.1
theorem k0_dev6_lt : ∀ (v6 : BitVec 32) (k0_hw2 : k0_chk2 v6), (k0_dev6 v6) < nD := fun v6 k0_hw2 => k0_hw2.2.2.1
theorem k0_dev8_lt : ∀ (v6 : BitVec 32) (k0_hw2 : k0_chk2 v6) (k0_t1 : Fin k0_t1_loop.trips), ∀ (k0_h1 : k0_cond1 k0_t1 = 1#1), (k0_dev8 v6) < nD := fun v6 k0_hw2 k0_t1 k0_h1 => k0_hw2.2.2.2.1 k0_t1 k0_h1
theorem k0_dev9_lt : ∀ (v6 : BitVec 32) (k0_hw2 : k0_chk2 v6) (k0_t1 : Fin k0_t1_loop.trips), ∀ (k0_h4 : k0_cond4 k0_t1 = 1#1), (k0_dev9 v6) < nD := fun v6 k0_hw2 k0_t1 k0_h4 => k0_hw2.2.2.2.2.1 k0_t1 k0_h4
theorem k0_dev12_lt : ∀ (v6 : BitVec 32) (k0_hw2 : k0_chk2 v6) (k0_t1 : Fin k0_t1_loop.trips), ∀ (k0_h5 : k0_cond5 k0_t1 = 1#1), (k0_dev12 v6) < nD := fun v6 k0_hw2 k0_t1 k0_h5 => k0_hw2.2.2.2.2.2.1 k0_t1 k0_h5
theorem k0_dev13_lt : ∀ (v6 : BitVec 32) (k0_hw2 : k0_chk2 v6) (k0_t1 : Fin k0_t1_loop.trips), ∀ (k0_h8 : k0_cond8 k0_t1 = 1#1), (k0_dev13 v6) < nD := fun v6 k0_hw2 k0_t1 k0_h8 => k0_hw2.2.2.2.2.2.2 k0_t1 k0_h8

def k0_dev14 (v4 : BitVec 32) : Nat :=
  let c0_i32_347 : BitVec 32 := 0#32
  let c1_i32_346 : BitVec 32 := 1#32
  let v394 : BitVec 32 := Scalar.muli v4 c1_i32_346
  let v395 : BitVec 32 := Scalar.addi c0_i32_347 v394
  v395.toNat

def k0_chk1 (v4 : BitVec 32) : Prop :=
  ((k0_dev1 v4) < nD) ∧
  ((k0_dev3 v4) < nD) ∧
  ((k0_dev5 v4) < nD) ∧
  (∀ k0_t1 : Fin k0_t1_loop.trips, ∀ (k0_h1 : k0_cond1 k0_t1 = 1#1), (k0_dev7 v4) < nD) ∧
  (∀ k0_t1 : Fin k0_t1_loop.trips, ∀ (k0_h4 : k0_cond4 k0_t1 = 1#1), (k0_dev10 v4) < nD) ∧
  (∀ k0_t1 : Fin k0_t1_loop.trips, ∀ (k0_h5 : k0_cond5 k0_t1 = 1#1), (k0_dev11 v4) < nD) ∧
  (∀ k0_t1 : Fin k0_t1_loop.trips, ∀ (k0_h8 : k0_cond8 k0_t1 = 1#1), (k0_dev14 v4) < nD)
theorem k0_dev1_lt : ∀ (v4 : BitVec 32) (k0_hw1 : k0_chk1 v4), (k0_dev1 v4) < nD := fun v4 k0_hw1 => k0_hw1.1
theorem k0_dev3_lt : ∀ (v4 : BitVec 32) (k0_hw1 : k0_chk1 v4), (k0_dev3 v4) < nD := fun v4 k0_hw1 => k0_hw1.2.1
theorem k0_dev5_lt : ∀ (v4 : BitVec 32) (k0_hw1 : k0_chk1 v4), (k0_dev5 v4) < nD := fun v4 k0_hw1 => k0_hw1.2.2.1
theorem k0_dev7_lt : ∀ (v4 : BitVec 32) (k0_hw1 : k0_chk1 v4) (k0_t1 : Fin k0_t1_loop.trips), ∀ (k0_h1 : k0_cond1 k0_t1 = 1#1), (k0_dev7 v4) < nD := fun v4 k0_hw1 k0_t1 k0_h1 => k0_hw1.2.2.2.1 k0_t1 k0_h1
theorem k0_dev10_lt : ∀ (v4 : BitVec 32) (k0_hw1 : k0_chk1 v4) (k0_t1 : Fin k0_t1_loop.trips), ∀ (k0_h4 : k0_cond4 k0_t1 = 1#1), (k0_dev10 v4) < nD := fun v4 k0_hw1 k0_t1 k0_h4 => k0_hw1.2.2.2.2.1 k0_t1 k0_h4
theorem k0_dev11_lt : ∀ (v4 : BitVec 32) (k0_hw1 : k0_chk1 v4) (k0_t1 : Fin k0_t1_loop.trips), ∀ (k0_h5 : k0_cond5 k0_t1 = 1#1), (k0_dev11 v4) < nD := fun v4 k0_hw1 k0_t1 k0_h5 => k0_hw1.2.2.2.2.2.1 k0_t1 k0_h5
theorem k0_dev14_lt : ∀ (v4 : BitVec 32) (k0_hw1 : k0_chk1 v4) (k0_t1 : Fin k0_t1_loop.trips), ∀ (k0_h8 : k0_cond8 k0_t1 = 1#1), (k0_dev14 v4) < nD := fun v4 k0_hw1 k0_t1 k0_h8 => k0_hw1.2.2.2.2.2.2 k0_t1 k0_h8

def k0_off43 (k0_t1 : Fin k0_t1_loop.trips) : Fin 4 → Nat :=
  let c1_299 : Index := 1#32
  let c0_i32_131 : BitVec 32 := 0#32
  let c1_i32_132 : BitVec 32 := 1#32
  let arg9 : BitVec 32 := Scf.iv c0_i32_131 c1_i32_132 k0_t1
  let c1_i32_292 : BitVec 32 := 1#32
  let v314 : BitVec 32 := Scalar.addi arg9 c1_i32_292
  let c3_i32_293 : BitVec 32 := 3#32
  let c0_i32_294 : BitVec 32 := 0#32
  let v315 : BitVec 1 := Scalar.cmpi .eq c3_i32_293 c0_i32_294
  let c1_i32_295 : BitVec 32 := 1#32
  let v316 : BitVec 32 := Scalar.select v315 c1_i32_295 c3_i32_293
  let v317 : BitVec 32 := Scalar.remsi v314 v316
  let c0_i32_297 : BitVec 32 := 0#32
  let v319 : BitVec 1 := Scalar.cmpi .slt v317 c0_i32_297
  let c0_i32_298 : BitVec 32 := 0#32
  let v320 : BitVec 1 := Scalar.cmpi .slt v316 c0_i32_298
  let v321 : BitVec 1 := Scalar.xori v319 v320
  let c0_i32_296 : BitVec 32 := 0#32
  let v318 : BitVec 1 := Scalar.cmpi .ne v317 c0_i32_296
  let v322 : BitVec 1 := Scalar.andi v321 v318
  let v323 : BitVec 32 := Scalar.addi v317 v316
  let v324 : BitVec 32 := Scalar.select v322 v323 v317
  let v325 : Index := Scalar.indexCast v324
  let c0_300 : Index := 0#32
  let c0_301 : Index := 0#32
  ![1, v325.toNat, 0, 0]
def k0_off44 (v8 : BitVec 32) (k0_t1 : Fin k0_t1_loop.trips) : Fin 2 → Nat :=
  let c3_316 : Index := 3#32
  let c32_i32_308 : BitVec 32 := 32#32
  let v338 : BitVec 32 := Scalar.addi v8 c32_i32_308
  let c1_i32_309 : BitVec 32 := 1#32
  let v339 : BitVec 32 := Scalar.subi v338 c1_i32_309
  let c0_i32_131 : BitVec 32 := 0#32
  let c1_i32_132 : BitVec 32 := 1#32
  let arg9 : BitVec 32 := Scf.iv c0_i32_131 c1_i32_132 k0_t1
  let v340 : BitVec 32 := Scalar.subi v339 arg9
  let c16_i32_310 : BitVec 32 := 16#32
  let c0_i32_311 : BitVec 32 := 0#32
  let v341 : BitVec 1 := Scalar.cmpi .eq c16_i32_310 c0_i32_311
  let c1_i32_312 : BitVec 32 := 1#32
  let v342 : BitVec 32 := Scalar.select v341 c1_i32_312 c16_i32_310
  let v343 : BitVec 32 := Scalar.remsi v340 v342
  let c0_i32_314 : BitVec 32 := 0#32
  let v345 : BitVec 1 := Scalar.cmpi .slt v343 c0_i32_314
  let c0_i32_315 : BitVec 32 := 0#32
  let v346 : BitVec 1 := Scalar.cmpi .slt v342 c0_i32_315
  let v347 : BitVec 1 := Scalar.xori v345 v346
  let c0_i32_313 : BitVec 32 := 0#32
  let v344 : BitVec 1 := Scalar.cmpi .ne v343 c0_i32_313
  let v348 : BitVec 1 := Scalar.andi v347 v344
  let v349 : BitVec 32 := Scalar.addi v343 v342
  let v350 : BitVec 32 := Scalar.select v348 v349 v343
  let v351 : Index := Scalar.indexCast v350
  ![3, v351.toNat]
def k0_off45 (v352 : BitVec 32) : Fin 2 → Nat :=
  let c512_i32_317 : BitVec 32 := 512#32
  let v353 : BitVec 32 := Scalar.muli v352 c512_i32_317
  let c128_i32_318 : BitVec 32 := 128#32
  let v354 : BitVec 32 := Scalar.addi v353 c128_i32_318
  let v355 : Index := Scalar.indexCast v354
  let c0_319 : Index := 0#32
  ![v355.toNat, 0]

def k0_chk6 (v352 : BitVec 32) : Prop :=
  (∀ a, (k0_off45 v352) a + S128x256.size a ≤ S8192x256.size a)
theorem k0_off45_inb : ∀ (v352 : BitVec 32) (k0_hw6 : k0_chk6 v352), ∀ a, (k0_off45 v352) a + S128x256.size a ≤ S8192x256.size a := fun v352 k0_hw6 => k0_hw6

def k0_off46 (k0_t1 : Fin k0_t1_loop.trips) : Fin 4 → Nat :=
  let c3_320 : Index := 3#32
  let c0_i32_131 : BitVec 32 := 0#32
  let c1_i32_132 : BitVec 32 := 1#32
  let arg9 : BitVec 32 := Scf.iv c0_i32_131 c1_i32_132 k0_t1
  let c1_i32_292 : BitVec 32 := 1#32
  let v314 : BitVec 32 := Scalar.addi arg9 c1_i32_292
  let c3_i32_293 : BitVec 32 := 3#32
  let c0_i32_294 : BitVec 32 := 0#32
  let v315 : BitVec 1 := Scalar.cmpi .eq c3_i32_293 c0_i32_294
  let c1_i32_295 : BitVec 32 := 1#32
  let v316 : BitVec 32 := Scalar.select v315 c1_i32_295 c3_i32_293
  let v317 : BitVec 32 := Scalar.remsi v314 v316
  let c0_i32_297 : BitVec 32 := 0#32
  let v319 : BitVec 1 := Scalar.cmpi .slt v317 c0_i32_297
  let c0_i32_298 : BitVec 32 := 0#32
  let v320 : BitVec 1 := Scalar.cmpi .slt v316 c0_i32_298
  let v321 : BitVec 1 := Scalar.xori v319 v320
  let c0_i32_296 : BitVec 32 := 0#32
  let v318 : BitVec 1 := Scalar.cmpi .ne v317 c0_i32_296
  let v322 : BitVec 1 := Scalar.andi v321 v318
  let v323 : BitVec 32 := Scalar.addi v317 v316
  let v324 : BitVec 32 := Scalar.select v322 v323 v317
  let v357 : Index := Scalar.indexCast v324
  let c0_321 : Index := 0#32
  let c0_322 : Index := 0#32
  ![3, v357.toNat, 0, 0]
def k0_off47 (v8 : BitVec 32) (k0_t1 : Fin k0_t1_loop.trips) : Fin 2 → Nat :=
  let c3_336 : Index := 3#32
  let c1_i32_329 : BitVec 32 := 1#32
  let v370 : BitVec 32 := Scalar.addi v8 c1_i32_329
  let c0_i32_131 : BitVec 32 := 0#32
  let c1_i32_132 : BitVec 32 := 1#32
  let arg9 : BitVec 32 := Scf.iv c0_i32_131 c1_i32_132 k0_t1
  let v371 : BitVec 32 := Scalar.addi v370 arg9
  let c16_i32_330 : BitVec 32 := 16#32
  let c0_i32_331 : BitVec 32 := 0#32
  let v372 : BitVec 1 := Scalar.cmpi .eq c16_i32_330 c0_i32_331
  let c1_i32_332 : BitVec 32 := 1#32
  let v373 : BitVec 32 := Scalar.select v372 c1_i32_332 c16_i32_330
  let v374 : BitVec 32 := Scalar.remsi v371 v373
  let c0_i32_334 : BitVec 32 := 0#32
  let v376 : BitVec 1 := Scalar.cmpi .slt v374 c0_i32_334
  let c0_i32_335 : BitVec 32 := 0#32
  let v377 : BitVec 1 := Scalar.cmpi .slt v373 c0_i32_335
  let v378 : BitVec 1 := Scalar.xori v376 v377
  let c0_i32_333 : BitVec 32 := 0#32
  let v375 : BitVec 1 := Scalar.cmpi .ne v374 c0_i32_333
  let v379 : BitVec 1 := Scalar.andi v378 v375
  let v380 : BitVec 32 := Scalar.addi v374 v373
  let v381 : BitVec 32 := Scalar.select v379 v380 v374
  let v382 : Index := Scalar.indexCast v381
  ![3, v382.toNat]

def k0_chk3 (v8 : BitVec 32) : Prop :=
  (∀ k0_t1 : Fin k0_t1_loop.trips, ∀ a, (k0_off22 v8 k0_t1) a + S1x1.size a ≤ S4x16.size a) ∧
  (∀ k0_t1 : Fin k0_t1_loop.trips, ∀ a, (k0_off25 v8 k0_t1) a + S1x1.size a ≤ S4x16.size a) ∧
  (∀ k0_t1 : Fin k0_t1_loop.trips, ∀ a, (k0_off44 v8 k0_t1) a + S1x1.size a ≤ S4x16.size a) ∧
  (∀ k0_t1 : Fin k0_t1_loop.trips, ∀ a, (k0_off47 v8 k0_t1) a + S1x1.size a ≤ S4x16.size a)
theorem k0_off22_inb : ∀ (v8 : BitVec 32) (k0_hw3 : k0_chk3 v8) (k0_t1 : Fin k0_t1_loop.trips), ∀ a, (k0_off22 v8 k0_t1) a + S1x1.size a ≤ S4x16.size a := fun v8 k0_hw3 k0_t1 => k0_hw3.1 k0_t1
theorem k0_off25_inb : ∀ (v8 : BitVec 32) (k0_hw3 : k0_chk3 v8) (k0_t1 : Fin k0_t1_loop.trips), ∀ a, (k0_off25 v8 k0_t1) a + S1x1.size a ≤ S4x16.size a := fun v8 k0_hw3 k0_t1 => k0_hw3.2.1 k0_t1
theorem k0_off44_inb : ∀ (v8 : BitVec 32) (k0_hw3 : k0_chk3 v8) (k0_t1 : Fin k0_t1_loop.trips), ∀ a, (k0_off44 v8 k0_t1) a + S1x1.size a ≤ S4x16.size a := fun v8 k0_hw3 k0_t1 => k0_hw3.2.2.1 k0_t1
theorem k0_off47_inb : ∀ (v8 : BitVec 32) (k0_hw3 : k0_chk3 v8) (k0_t1 : Fin k0_t1_loop.trips), ∀ a, (k0_off47 v8 k0_t1) a + S1x1.size a ≤ S4x16.size a := fun v8 k0_hw3 k0_t1 => k0_hw3.2.2.2 k0_t1

def k0_off48 (v383 : BitVec 32) : Fin 2 → Nat :=
  let c512_i32_337 : BitVec 32 := 512#32
  let v384 : BitVec 32 := Scalar.muli v383 c512_i32_337
  let c384_i32_338 : BitVec 32 := 384#32
  let v385 : BitVec 32 := Scalar.addi v384 c384_i32_338
  let v386 : Index := Scalar.indexCast v385
  let c0_339 : Index := 0#32
  ![v386.toNat, 0]

def k0_chk7 (v383 : BitVec 32) : Prop :=
  (∀ a, (k0_off48 v383) a + S128x256.size a ≤ S8192x256.size a)
theorem k0_off48_inb : ∀ (v383 : BitVec 32) (k0_hw7 : k0_chk7 v383), ∀ a, (k0_off48 v383) a + S128x256.size a ≤ S8192x256.size a := fun v383 k0_hw7 => k0_hw7

abbrev stage0_0 : Fin 1 → Memref sig .tc .smem S4x16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .bf16⟩
  | .hbm, ⟨2, _⟩ => ⟨S8192x8192, .f32⟩
  | .hbm, ⟨3, _⟩ => ⟨S8192x4096, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.Ring.lean ====
/- The ring of sixteen devices, and the closed forms of every address the kernel computes. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Tactic

@[expose] public section

noncomputable section

namespace Cert.Proof.AG

open Cert.KernelIdeal Cert.KernelIdeal.Gen
open Idealize.ShloMosaic Idealize.ShloMosaic.TcCoe

/-! ## The ring -/

/-- The device at each position of the ring. -/
def ringAt : Fin 16 → Dev nD := ![0, 1, 5, 9, 13, 14, 10, 6, 2, 3, 7, 11, 15, 12, 8, 4]
/-- Each device's position. -/
def posOf (c : Dev nD) : Fin 16 := (![0, 1, 8, 9, 15, 2, 7, 10, 14, 3, 6, 11, 13, 4, 5, 12] : Fin 16 → Fin 16) c
/-- The device after `c` around the ring. -/
def nxt (c : Dev nD) : Dev nD := ringAt (posOf c + 1)
/-- The device before it. -/
def prv (c : Dev nD) : Dev nD := ringAt (posOf c - 1)
/-- The device stream `q` of device `c` sends to. -/
def dst (q : Fin 4) (c : Dev nD) : Dev nD := if q.val < 2 then nxt c else prv c
/-- The device it receives from. -/
def src (q : Fin 4) (c : Dev nD) : Dev nD := if q.val < 2 then prv c else nxt c
/-- The device whose rows landing `j` of stream `q` on device `c` holds: `j` steps upstream. -/
def org (q : Fin 4) : Dev nD → ℕ → Dev nD
  | c, 0 => c
  | c, j + 1 => org q (src q c) j

theorem src_dst (q : Fin 4) (c : Dev nD) : src q (dst q c) = c := by revert q c; decide
theorem dst_src (q : Fin 4) (c : Dev nD) : dst q (src q c) = c := by revert q c; decide
theorem prv_nxt (c : Dev nD) : prv (nxt c) = c := by revert c; decide
theorem nxt_prv (c : Dev nD) : nxt (prv c) = c := by revert c; decide
theorem nxt_ne_prv (c : Dev nD) : nxt c ≠ prv c := by revert c; decide
/-- What lands downstream as landing `j + 1` is what landing `j` holds here. -/
theorem org_dst (q : Fin 4) (c : Dev nD) (j : ℕ) : org q (dst q c) (j + 1) = org q c j := by
  show org q (src q (dst q c)) j = _; rw [src_dst]
/-- Every device's rows reach device `c` within the sixteen landings. -/
theorem org_surj (q : Fin 4) (c o : Dev nD) : ∃ j, j < 16 ∧ org q c j = o := by
  have h : ∀ q : Fin 4, ∀ c o : Dev nD, ∃ j : Fin 16, org q c j.val = o := by decide +kernel
  obtain ⟨j, hj⟩ := h q c o
  exact ⟨j.val, j.isLt, hj⟩
/-- A step along a stream, as a permutation of the devices. -/
def dstE (q : Fin 4) : Dev nD ≃ Dev nD := ⟨dst q, src q, src_dst q, dst_src q⟩
def srcE (q : Fin 4) : Dev nD ≃ Dev nD := (dstE q).symm

/-! ## The neighbour table -/

/-- A device number as the table holds it. -/
abbrev wd (c : Fin 16) : BitVec 32 := BitVec.ofNat 32 c.val

variable {F : FTy → Type} [FloatOps F]

/-- The table the host writes. -/
def tbl : S4x16.Idx → Elt F .i32 := fun i => lit0 (S4x16.rowMajor i)

abbrev tblRect (off : Fin 2 → ℕ) (h : ∀ a, off a + S1x1.size a ≤ S4x16.size a) : Rect S4x16 := Rect.unit (s := S4x16) off S1x1.size h

theorem nat3_lt (q : Fin 4) (s : Fin 3) : 3 * q.val + s.val < 12 := by omega

theorem trips15 : k0_t1_loop.trips = 15 := by decide

/-- A trip's number. -/
abbrev hop (t : Fin k0_t1_loop.trips) : ℕ := t.val
theorem hop_lt (t : Fin k0_t1_loop.trips) : hop t < 15 := trips15 ▸ t.isLt

theorem off1_eq (c : Dev nD) : k0_off1 c = ![0, c.val] := by revert c; decide +kernel
theorem off2_eq (c : Dev nD) : k0_off2 c = ![1, c.val] := by revert c; decide +kernel
theorem off3_eq (c : Dev nD) : k0_off3 c = ![2, c.val] := by revert c; decide +kernel

theorem off5_eq (t : Fin k0_t1_loop.trips) : k0_off5 t = ![0, (hop t + 1) % 3] := by revert t; decide +kernel
theorem off6_eq (t : Fin k0_t1_loop.trips) : k0_off6 t = ![0, (hop t + 1) % 3, 0, 0] := by revert t; decide +kernel
theorem off7_eq (t : Fin k0_t1_loop.trips) : k0_off7 t = ![0, hop t % 3, 0, 0] := by revert t; decide +kernel
theorem off8_eq (t : Fin k0_t1_loop.trips) : k0_off8 t = ![0, hop t % 3] := by revert t; decide +kernel
theorem off9_eq (t : Fin k0_t1_loop.trips) : k0_off9 t = ![2, (hop t + 1) % 3] := by revert t; decide +kernel
theorem off10_eq (t : Fin k0_t1_loop.trips) : k0_off10 t = ![2, (hop t + 1) % 3, 0, 0] := by revert t; decide +kernel
theorem off11_eq (t : Fin k0_t1_loop.trips) : k0_off11 t = ![2, hop t % 3, 0, 0] := by revert t; decide +kernel
theorem off12_eq (t : Fin k0_t1_loop.trips) : k0_off12 t = ![2, hop t % 3] := by revert t; decide +kernel
theorem off13_eq (t : Fin k0_t1_loop.trips) : k0_off13 t = ![0, (hop t + 1) % 3] := by revert t; decide +kernel
theorem off14_eq (t : Fin k0_t1_loop.trips) : k0_off14 t = ![0, (hop t + 2) % 3] := by revert t; decide +kernel
theorem off15_eq (t : Fin k0_t1_loop.trips) : k0_off15 t = ![0, (hop t + 2) % 3, 0, 0] := by revert t; decide +kernel
theorem off16_eq (t : Fin k0_t1_loop.trips) : k0_off16 t = ![0, (hop t + 1) % 3, 0, 0] := by revert t; decide +kernel
theorem off17_eq (t : Fin k0_t1_loop.trips) : k0_off17 t = ![2, (hop t + 1) % 3] := by revert t; decide +kernel
theorem off18_eq (t : Fin k0_t1_loop.trips) : k0_off18 t = ![2, (hop t + 2) % 3] := by revert t; decide +kernel
theorem off19_eq (t : Fin k0_t1_loop.trips) : k0_off19 t = ![2, (hop t + 2) % 3, 0, 0] := by revert t; decide +kernel
theorem off20_eq (t : Fin k0_t1_loop.trips) : k0_off20 t = ![2, (hop t + 1) % 3, 0, 0] := by revert t; decide +kernel
theorem off21_eq (t : Fin k0_t1_loop.trips) : k0_off21 t = ![0, (hop t + 1) % 3, 0, 0] := by revert t; decide +kernel
theorem off24_eq (t : Fin k0_t1_loop.trips) : k0_off24 t = ![2, (hop t + 1) % 3, 0, 0] := by revert t; decide +kernel
theorem off27_eq (t : Fin k0_t1_loop.trips) : k0_off27 t = ![1, (hop t + 1) % 3] := by revert t; decide +kernel
theorem off28_eq (t : Fin k0_t1_loop.trips) : k0_off28 t = ![1, (hop t + 1) % 3, 0, 0] := by revert t; decide +kernel
theorem off29_eq (t : Fin k0_t1_loop.trips) : k0_off29 t = ![1, hop t % 3, 0, 0] := by revert t; decide +kernel
theorem off30_eq (t : Fin k0_t1_loop.trips) : k0_off30 t = ![1, hop t % 3] := by revert t; decide +kernel
theorem off31_eq (t : Fin k0_t1_loop.trips) : k0_off31 t = ![3, (hop t + 1) % 3] := by revert t; decide +kernel
theorem off32_eq (t : Fin k0_t1_loop.trips) : k0_off32 t = ![3, (hop t + 1) % 3, 0, 0] := by revert t; decide +kernel
theorem off33_eq (t : Fin k0_t1_loop.trips) : k0_off33 t = ![3, hop t % 3, 0, 0] := by revert t; decide +kernel
theorem off34_eq (t : Fin k0_t1_loop.trips) : k0_off34 t = ![3, hop t % 3] := by revert t; decide +kernel
theorem off35_eq (t : Fin k0_t1_loop.trips) : k0_off35 t = ![1, (hop t + 1) % 3] := by revert t; decide +kernel
theorem off36_eq (t : Fin k0_t1_loop.trips) : k0_off36 t = ![1, (hop t + 2) % 3] := by revert t; decide +kernel
theorem off37_eq (t : Fin k0_t1_loop.trips) : k0_off37 t = ![1, (hop t + 2) % 3, 0, 0] := by revert t; decide +kernel
theorem off38_eq (t : Fin k0_t1_loop.trips) : k0_off38 t = ![1, (hop t + 1) % 3, 0, 0] := by revert t; decide +kernel
theorem off39_eq (t : Fin k0_t1_loop.trips) : k0_off39 t = ![3, (hop t + 1) % 3] := by revert t; decide +kernel
theorem off40_eq (t : Fin k0_t1_loop.trips) : k0_off40 t = ![3, (hop t + 2) % 3] := by revert t; decide +kernel
theorem off41_eq (t : Fin k0_t1_loop.trips) : k0_off41 t = ![3, (hop t + 2) % 3, 0, 0] := by revert t; decide +kernel
theorem off42_eq (t : Fin k0_t1_loop.trips) : k0_off42 t = ![3, (hop t + 1) % 3, 0, 0] := by revert t; decide +kernel
theorem off43_eq (t : Fin k0_t1_loop.trips) : k0_off43 t = ![1, (hop t + 1) % 3, 0, 0] := by revert t; decide +kernel
theorem off46_eq (t : Fin k0_t1_loop.trips) : k0_off46 t = ![3, (hop t + 1) % 3, 0, 0] := by revert t; decide +kernel

/-- The device each address names, at a neighbour's word. -/
theorem dev_eq (c : Fin 16) :
    k0_dev1 (wd c) = c.val ∧ k0_dev2 (wd c) = c.val ∧ k0_dev3 (wd c) = c.val ∧ k0_dev4 (wd c) = c.val ∧ k0_dev5 (wd c) = c.val
    ∧ k0_dev6 (wd c) = c.val ∧ k0_dev7 (wd c) = c.val ∧ k0_dev8 (wd c) = c.val ∧ k0_dev9 (wd c) = c.val ∧ k0_dev10 (wd c) = c.val
    ∧ k0_dev11 (wd c) = c.val ∧ k0_dev12 (wd c) = c.val ∧ k0_dev13 (wd c) = c.val ∧ k0_dev14 (wd c) = c.val := by
  revert c; decide +kernel

/-- The side conditions the kernel assumes of the words it reads hold of a device's word. -/
theorem chk1_wd (c : Fin 16) : k0_chk1 (wd c) := by revert c; decide +kernel
theorem chk2_wd (c : Fin 16) : k0_chk2 (wd c) := by revert c; decide +kernel
theorem chk3_wd (c : Fin 16) : k0_chk3 (wd c) := by revert c; decide +kernel
theorem chk4_wd (c : Fin 16) : k0_chk4 (wd c) := by revert c; decide +kernel
theorem chk5_wd (c : Fin 16) : k0_chk5 (wd c) := by revert c; decide +kernel
theorem chk6_wd (c : Fin 16) : k0_chk6 (wd c) := by revert c; decide +kernel
theorem chk7_wd (c : Fin 16) : k0_chk7 (wd c) := by revert c; decide +kernel

/-- The first row written for a block of origin `o` in stream `q`. -/
abbrev outOff (q : Fin 4) (o : Dev nD) : Fin 2 → ℕ := ![o.val * 512 + q.val * 128, 0]
theorem off4_eq (c : Dev nD) (q : Fin 4) : k0_off4 c (BitVec.ofNat 32 (q.val * 128)) = outOff q c := by revert c q; decide +kernel
theorem off23_eq (o : Fin 16) : k0_off23 (wd o) = outOff 0 o := by revert o; decide +kernel
theorem off26_eq (o : Fin 16) : k0_off26 (wd o) = outOff 2 o := by revert o; decide +kernel
theorem off45_eq (o : Fin 16) : k0_off45 (wd o) = outOff 1 o := by revert o; decide +kernel
theorem off48_eq (o : Fin 16) : k0_off48 (wd o) = outOff 3 o := by revert o; decide +kernel

/-- The table entry at an offset, as a word. -/
def tblWord (off : Fin 2 → ℕ) : BitVec 32 := if h : 16 * off 0 + off 1 < 64 then lit0 ⟨16 * off 0 + off 1, h⟩ else 0#32
theorem tbl_nxt (c : Dev nD) : tblWord (k0_off1 c) = wd (nxt c) := by revert c; decide +kernel
theorem tbl_prv (c : Dev nD) : tblWord (k0_off2 c) = wd (prv c) := by revert c; decide +kernel
theorem tbl_pos (c : Dev nD) : tblWord (k0_off3 c) = wd (posOf c) := by revert c; decide +kernel
theorem tbl_org0 (c : Dev nD) (t : Fin k0_t1_loop.trips) : tblWord (k0_off22 (wd (posOf c)) t) = wd (org 0 c (hop t + 1)) := by
  revert c t; decide +kernel
theorem tbl_org2 (c : Dev nD) (t : Fin k0_t1_loop.trips) : tblWord (k0_off25 (wd (posOf c)) t) = wd (org 2 c (hop t + 1)) := by
  revert c t; decide +kernel
theorem tbl_org1 (c : Dev nD) (t : Fin k0_t1_loop.trips) : tblWord (k0_off44 (wd (posOf c)) t) = wd (org 1 c (hop t + 1)) := by
  revert c t; decide +kernel
theorem tbl_org3 (c : Dev nD) (t : Fin k0_t1_loop.trips) : tblWord (k0_off47 (wd (posOf c)) t) = wd (org 3 c (hop t + 1)) := by
  revert c t; decide +kernel

/-! ## The branches of a trip -/

theorem cond1_iff (t : Fin k0_t1_loop.trips) : k0_cond1 t = 1#1 ↔ hop t < 14 := by revert t; decide +kernel
theorem cond4_iff (t : Fin k0_t1_loop.trips) : k0_cond4 t = 1#1 ↔ hop t ≤ 12 := by revert t; decide +kernel
theorem cond5_iff (t : Fin k0_t1_loop.trips) : k0_cond5 t = 1#1 ↔ hop t < 14 := by revert t; decide +kernel
theorem cond8_iff (t : Fin k0_t1_loop.trips) : k0_cond8 t = 1#1 ↔ hop t ≤ 12 := by revert t; decide +kernel
/-- The word test that guards the wait for a credit: true from trip one on. -/
theorem wait_iff (t : Fin k0_t1_loop.trips) :
    Scalar.cmpi .ne (Scalar.extui (Scalar.cmpi .sge (Scalar.addi (Scf.iv 0#32 1#32 t.val) 1#32) 2#32) : BitVec 32) 0#32 = 1#1 ↔ 1 ≤ hop t := by
  revert t; decide +kernel

end Cert.Proof.AG

end
-- ==== Proof.Cells.lean ====
/- The ring protocol: the slots, the semaphore cells, the schedule of duties and what each hands over. -/
module

public import proofs.«01_k».proof.Proof.Ring
public import Idealize.ShloMosaic.Lib.Rounds
public import Idealize.ShloMosaic.Lib.Release
public import Idealize.ShloMosaic.Lib.MemrefSat
public import Idealize.ShloMosaic.Lib.ViewIndex
public import Idealize.ShloMosaic.Lib.Pipeline.Kit

@[expose] public section

noncomputable section

namespace Cert.Proof.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## The algebra -/

/-- A slot of the rotating buffer: the device, the stream, the place. -/
abbrev Key : Type := Dev nD × Fin 4 × Fin 3
abbrev UT : Type := Rounds.URounds (GSem nD τ sig) ℕ
abbrev UU : Type := UR sig nD τ × (UT × Release.USlots Key)

local notation "𝕄" => MT nD τ sig ℕ (Elt F) ℕ UU ℕ

abbrev EP : Emb (UR sig nD τ) (MT nD τ sig ℕ (Elt F) ℕ UU ℕ) := embL
abbrev ET : Emb (UT × Release.USlots Key) (MT nD τ sig ℕ (Elt F) ℕ UU ℕ) := embR
abbrev ER : Emb UT (MT nD τ sig ℕ (Elt F) ℕ UU ℕ) := Emb.inl.trans ET
abbrev EK : Emb (Release.USlots Key) (MT nD τ sig ℕ (Elt F) ℕ UU ℕ) := Emb.inr.trans ET

/-! ## The slots -/

/-- The place of landing `j` in the rotation. -/
abbrev sl (j : ℕ) : Fin 3 := ⟨j % 3, Nat.mod_lt _ (by decide)⟩

abbrev commM : Memref sig .tc .vmem S4x3x128x8192 .bf16 := Memref.whole cc0_scratch0

theorem slotInb (q : Fin 4) (s : Fin 3) : ∀ a, (![q.val, s.val, 0, 0] : Fin 4 → ℕ) a + S1x1x128x8192.size a ≤ S4x3x128x8192.size a := by
  revert q s; decide
abbrev slotRect (q : Fin 4) (s : Fin 3) : Rect S4x3x128x8192 := Rect.unit (s := S4x3x128x8192) ![q.val, s.val, 0, 0] S1x1x128x8192.size (slotInb q s)
/-- Place `s` of stream `q`. -/
abbrev slotM (q : Fin 4) (s : Fin 3) : Memref sig .tc .vmem S1x1x128x8192 .bf16 := commM.slice (slotRect q s) (fun _ => rfl)
/-- The same as a matrix. -/
abbrev slotQ (q : Fin 4) (s : Fin 3) : Memref sig .tc .vmem S128x8192 .bf16 := (slotM q s).squeeze S128x8192 squeezes_S1x1x128x8192_S128x8192

theorem slot_nonempty (q : Fin 4) (s : Fin 3) : (slotM q s).view.set.Nonempty :=
  ⟨_, View.emb_mem_set _ (fun a => ⟨0, by revert a; decide⟩)⟩

/-- Units a slot's landing credits. -/
abbrev N : ℕ := (slotQ 0 0).view.dmaCredit
theorem N_pos : 0 < N := View.dmaCredit_pos _ (by decide)
theorem dmaCredit_slot (q : Fin 4) (s : Fin 3) : (slotQ q s).view.dmaCredit = N := rfl

/-! ## The cells -/

abbrev barS : Sem sig := (SemArray.scalar (sig.barrier 0 rfl) : Sems sig S_).sem
abbrev creditS (q : Fin 4) : Sem sig := ⟨q.val, by have := q.isLt; show q.val < 5; omega⟩
abbrev sendS (q : Fin 4) (s : Fin 3) : DmaSem sig := ⟨4 + (3 * q.val + s.val), by have := q.isLt; have := s.isLt; show _ < 28; omega⟩
abbrev recvS (q : Fin 4) (s : Fin 3) : DmaSem sig := ⟨16 + (3 * q.val + s.val), by have := q.isLt; have := s.isLt; show _ < 28; omega⟩

abbrev barCell (c : Dev nD) : GSem nD τ sig := ((c : Thread nD τ), .reg barS)
abbrev creditCell (c : Dev nD) (q : Fin 4) : GSem nD τ sig := ((c : Thread nD τ), .reg (creditS q))
abbrev sendCell (c : Dev nD) (q : Fin 4) (s : Fin 3) : GSem nD τ sig := ((c : Thread nD τ), .dma (sendS q s))
abbrev recvCell (c : Dev nD) (q : Fin 4) (s : Fin 3) : GSem nD τ sig := ((c : Thread nD τ), .dma (recvS q s))

/-- What a semaphore of the kernel is for. -/
inductive CellKind where
  | bar
  | credit (q : Fin 4)
  | send (q : Fin 4) (s : Fin 3)
  | recv (q : Fin 4) (s : Fin 3)
  | other

def kindOf : SemLoc sig → CellKind
  | .reg n => if h : n.val < 4 then .credit ⟨n.val, h⟩ else .bar
  | .dma n =>
    if h : n.val < 4 then .other
    else if h' : n.val < 16 then .send ⟨(n.val - 4) / 3, by omega⟩ ⟨(n.val - 4) % 3, Nat.mod_lt _ (by decide)⟩
    else .recv ⟨(n.val - 16) / 3, by have : n.val < 28 := n.isLt; omega⟩ ⟨(n.val - 16) % 3, Nat.mod_lt _ (by decide)⟩

theorem kind_bar : kindOf (.reg barS) = .bar := rfl
theorem kind_credit (q : Fin 4) : kindOf (.reg (creditS q)) = .credit q := by fin_cases q <;> rfl
theorem kind_send (q : Fin 4) (s : Fin 3) : kindOf (.dma (sendS q s)) = .send q s := by fin_cases q <;> fin_cases s <;> rfl
theorem kind_recv (q : Fin 4) (s : Fin 3) : kindOf (.dma (recvS q s)) = .recv q s := by fin_cases q <;> fin_cases s <;> rfl

/-- The semaphores as the program addresses them. -/
theorem semInb (q : Fin 4) (s : Fin 3) : ∀ a, (![q.val, s.val] : Fin 2 → ℕ) a + S1x1.size a ≤ S4x3.size a := by revert q s; decide
theorem creditInb (q : Fin 4) : ∀ a, (![q.val] : Fin 1 → ℕ) a + S1.size a ≤ S4.size a := by revert q; decide
theorem send_sem : ∀ (q : Fin 4) (s : Fin 3),
    ((cc0_scratch2.slice (Rect.unit (s := S4x3) ![q.val, s.val] S1x1.size (semInb q s))).squeeze S_ squeezes_S1x1_S_).sem = sendS q s := by
  decide +kernel
theorem recv_sem : ∀ (q : Fin 4) (s : Fin 3),
    ((cc0_scratch3.slice (Rect.unit (s := S4x3) ![q.val, s.val] S1x1.size (semInb q s))).squeeze S_ squeezes_S1x1_S_).sem = recvS q s := by
  decide +kernel
theorem credit_sem : ∀ q : Fin 4,
    ((cc0_scratch4.slice (Rect.unit (s := S4) ![q.val] S1.size (creditInb q))).squeeze S_ squeezes_S1_S_).sem = creditS q := by
  decide +kernel
theorem send_at {off : Fin 2 → ℕ} {inb} {q : Fin 4} {s : Fin 3} (h : off = ![q.val, s.val]) :
    ((cc0_scratch2.slice (Rect.unit (s := S4x3) off S1x1.size inb)).squeeze S_ squeezes_S1x1_S_).sem = sendS q s := by
  subst h; exact send_sem q s
theorem recv_at {off : Fin 2 → ℕ} {inb} {q : Fin 4} {s : Fin 3} (h : off = ![q.val, s.val]) :
    ((cc0_scratch3.slice (Rect.unit (s := S4x3) off S1x1.size inb)).squeeze S_ squeezes_S1x1_S_).sem = recvS q s := by
  subst h; exact recv_sem q s
theorem credit_at {off : Fin 1 → ℕ} {inb} {q : Fin 4} (h : off = ![q.val]) :
    ((cc0_scratch4.slice (Rect.unit (s := S4) off S1.size inb)).squeeze S_ squeezes_S1_S_).sem = creditS q := by
  subst h; exact credit_sem q

/-! ## What moves -/

theorem rowsInb (q : Fin 4) : ∀ a, (![q.val * 128, 0] : Fin 2 → ℕ) a + S128x8192.size a ≤ S512x8192.size a := by revert q; decide
/-- The rows of a block of `x` that stream `q` carries. -/
abbrev rowsRect (q : Fin 4) : Rect S512x8192 := Rect.unit (s := S512x8192) ![q.val * 128, 0] S128x8192.size (rowsInb q)
def rows (x : Vec F S512x8192 .bf16) (q : Fin 4) : Vec F S128x8192 .bf16 := fun i => x ((rowsRect q).emb i)
/-- What stream `q` of a device with block `x` sends out. -/
def blk (x : Vec F S512x8192 .bf16) (q : Fin 4) : Vec F S1x1x128x8192 .bf16 := k0_pay6 (rows x q)

variable (X : Dev nD → Vec F S512x8192 .bf16)

/-- What landing `j` of stream `q` on device `c` holds. -/
abbrev land (c : Dev nD) (q : Fin 4) (j : ℕ) : Vec F S1x1x128x8192 .bf16 := blk (X (org q c j)) q

/-- A place of a device's rotating buffer at a share, reading `Y`. -/
abbrev slotAt (c : Dev nD) (q : Fin 4) (s : Fin 3) (sh : PosShare TreeShare) (Y : Vec F S1x1x128x8192 .bf16) : sProp 𝕄 :=
  owns (c : Thread nD τ) (slotM q s) sh Y
/-- A place free to be written. -/
abbrev slotFree (k : Key) : sProp 𝕄 :=
  Release.slot ((slotM k.2.1 k.2.2).view.loc (k.1 : Thread nD τ)) (slotM k.2.1 k.2.2).view.set

/-- The landing a place's round `r` is. -/
def landOf (s : Fin 3) (r : ℕ) : ℕ := 3 * r + (if s.val = 0 then 3 else s.val)
theorem landOf_eq (j : ℕ) (h : 1 ≤ j) : landOf (sl j) ((j - 1) / 3) = j := by
  unfold landOf; dsimp only; split <;> omega

/-- Stream `q`'s landing `i` on device `D` may be written: its place has been freed for it, and the round it lands in is reached. -/
def freed (D : Dev nD) (q : Fin 4) (i : ℕ) : sProp 𝕄 :=
  iprop(released EK (D, q, sl i) ((i + 2) / 3) ∗ reached ER (recvCell D q (sl i)) ((i - 1) / 3))
instance freed_persistent (D : Dev nD) (q : Fin 4) (i : ℕ) : BI.Persistent (freed (F := F) D q i) := by unfold freed; infer_instance
instance freed_storable (D : Dev nD) (q : Fin 4) (i : ℕ) : BI.Storable (upEmb : UEmb _ 𝕄) (freed (F := F) D q i) := by unfold freed; infer_instance

/-- A later landing in the same place being free, an earlier one was. -/
theorem freed_mono {D : Dev nD} {q : Fin 4} {i i' : ℕ} (h : i ≤ i') (hm : i % 3 = i' % 3) : freed (F := F) D q i' ⊢ freed D q i := by
  have e : sl i = sl i' := Fin.ext hm
  unfold freed
  rw [e]
  exact BI.sep_mono (released_mono EK (by omega)) (reached_mono (E := ER) (by omega))

/-- What a credit for having consumed landing `j` says. -/
def creditPay (D : Dev nD) (q : Fin 4) (j : ℕ) : sProp 𝕄 := iprop(freed D q (j + 1) ∗ freed D q (j + 2) ∗ freed D q (j + 3))
instance creditPay_persistent (D : Dev nD) (q : Fin 4) (j : ℕ) : BI.Persistent (creditPay (F := F) D q j) := by unfold creditPay; infer_instance
instance creditPay_storable (D : Dev nD) (q : Fin 4) (j : ℕ) : BI.Storable (upEmb : UEmb _ 𝕄) (creditPay (F := F) D q j) := by unfold creditPay; infer_instance

/-- What a device's barrier signal says: its two free places of every stream may be written, its credit cells are open. -/
def ready (D : Dev nD) : sProp 𝕄 :=
  bigSep (Finset.univ : Finset (Fin 4)) fun q => iprop(freed D q 1 ∗ freed D q 2 ∗ reached ER (creditCell D q) 0)
instance ready_persistent (D : Dev nD) : BI.Persistent (ready (F := F) D) := by unfold ready; infer_instance
instance ready_storable (D : Dev nD) : BI.Storable (upEmb : UEmb _ 𝕄) (ready (F := F) D) := by unfold ready; infer_instance

/-! ## The schedule -/

/-- The duties: two signals at the barrier, thirteen credits, five rounds of one transfer at each send and receive cell. -/
def ringRd : Rounds.Schedule (GSem nD τ sig) ℕ 𝕄 where
  duties g r := match kindOf g.2 with
    | .bar => if r = 0 then {0, 1} else ∅
    | .credit _ => if r = 0 then Finset.range 13 else ∅
    | .send _ _ => if r < 5 then {0} else ∅
    | .recv _ _ => if r < 5 then {0} else ∅
    | .other => ∅
  unitless _ := False
  amount g _ _ := match kindOf g.2 with
    | .bar => 1
    | .credit _ => 1
    | _ => N
  payload g r d := match kindOf g.2 with
    | .bar => ready (if d = 0 then prv g.1.1 else nxt g.1.1)
    | .credit q => creditPay (dst q g.1.1) q d
    | .send q s => slotAt g.1.1 q s fullShare.right (land X g.1.1 q (3 * r + s.val))
    | .recv q s => slotAt g.1.1 q s fullShare (land X g.1.1 q (landOf s r))
    | .other => iprop(emp)
  amount_pos g _ _ _ := by
    split <;> first | exact Nat.one_pos | exact N_pos

instance ringRd_storable (g : GSem nD τ sig) (r d : ℕ) : BI.Storable (upEmb : UEmb _ 𝕄) ((ringRd X).payload g r d) := by
  dsimp only [ringRd]
  split <;> infer_instance

section Sched
variable (c : Dev nD) (q : Fin 4) (s : Fin 3)

theorem duties_bar : (ringRd X).duties (barCell c) 0 = {0, 1} := by dsimp only [ringRd]; rw [kind_bar]; rfl
theorem duties_credit : (ringRd X).duties (creditCell c q) 0 = Finset.range 13 := by dsimp only [ringRd]; rw [kind_credit]; rfl
theorem duties_send {r : ℕ} (h : r < 5) : (ringRd X).duties (sendCell c q s) r = {0} := by dsimp only [ringRd]; rw [kind_send]; exact if_pos h
theorem duties_recv {r : ℕ} (h : r < 5) : (ringRd X).duties (recvCell c q s) r = {0} := by dsimp only [ringRd]; rw [kind_recv]; exact if_pos h

theorem later_bar : ∀ r, 1 ≤ r → (ringRd X).duties (barCell c) r = ∅ := fun r h => by
  dsimp only [ringRd]; rw [kind_bar]; exact if_neg (by omega)
theorem later_credit : ∀ r, 1 ≤ r → (ringRd X).duties (creditCell c q) r = ∅ := fun r h => by
  dsimp only [ringRd]; rw [kind_credit]; exact if_neg (by omega)
theorem later_send : ∀ r, 5 ≤ r → (ringRd X).duties (sendCell c q s) r = ∅ := fun r h => by
  dsimp only [ringRd]; rw [kind_send]; exact if_neg (by omega)
theorem later_recv : ∀ r, 5 ≤ r → (ringRd X).duties (recvCell c q s) r = ∅ := fun r h => by
  dsimp only [ringRd]; rw [kind_recv]; exact if_neg (by omega)

theorem amount_bar (r d : ℕ) : (ringRd X).amount (barCell c) r d = 1 := by dsimp only [ringRd]; rw [kind_bar]
theorem amount_credit (r d : ℕ) : (ringRd X).amount (creditCell c q) r d = 1 := by dsimp only [ringRd]; rw [kind_credit]
theorem amount_send (r d : ℕ) : (ringRd X).amount (sendCell c q s) r d = N := by dsimp only [ringRd]; rw [kind_send]
theorem amount_recv (r d : ℕ) : (ringRd X).amount (recvCell c q s) r d = N := by dsimp only [ringRd]; rw [kind_recv]

theorem payload_bar (r d : ℕ) : (ringRd X).payload (barCell c) r d = ready (if d = 0 then prv c else nxt c) := by
  dsimp only [ringRd]; rw [kind_bar]
theorem payload_credit (r d : ℕ) : (ringRd X).payload (creditCell c q) r d = creditPay (dst q c) q d := by
  dsimp only [ringRd]; rw [kind_credit]
theorem payload_send (r d : ℕ) : (ringRd X).payload (sendCell c q s) r d = slotAt c q s fullShare.right (land X c q (3 * r + s.val)) := by
  dsimp only [ringRd]; rw [kind_send]
theorem payload_recv (r d : ℕ) : (ringRd X).payload (recvCell c q s) r d = slotAt c q s fullShare (land X c q (landOf s r)) := by
  dsimp only [ringRd]; rw [kind_recv]

theorem expect_bar : (ringRd X).expect (barCell c) 0 = 2 := by
  unfold Schedule.expect Schedule.amountOf; rw [duties_bar, Finset.sum_congr rfl (fun d _ => amount_bar X c 0 d)]; rfl
theorem expect_credit : (ringRd X).expect (creditCell c q) 0 = 13 := by
  unfold Schedule.expect Schedule.amountOf; rw [duties_credit, Finset.sum_congr rfl (fun d _ => amount_credit X c q 0 d)]; rfl
theorem expect_send {r : ℕ} (h : r < 5) : (ringRd X).expect (sendCell c q s) r = N := by
  unfold Schedule.expect Schedule.amountOf; rw [duties_send X c q s h, Finset.sum_singleton, amount_send]
theorem expect_recv {r : ℕ} (h : r < 5) : (ringRd X).expect (recvCell c q s) r = N := by
  unfold Schedule.expect Schedule.amountOf; rw [duties_recv X c q s h, Finset.sum_singleton, amount_recv]

theorem rest_bar : bigSep ((ringRd X).duties (barCell c) 0 \ ∅) (fun d => (ringRd X).payload (barCell c) 0 d)
    = iprop(ready (prv c) ∗ ready (nxt c)) := by
  rw [Finset.sdiff_empty, duties_bar, bigSep_insert (by decide), bigSep_singleton, payload_bar, payload_bar, if_pos rfl, if_neg (by decide)]; rfl
theorem rest_send {r : ℕ} (h : r < 5) : bigSep ((ringRd X).duties (sendCell c q s) r \ ∅) (fun d => (ringRd X).payload (sendCell c q s) r d)
    = slotAt c q s fullShare.right (land X c q (3 * r + s.val)) := by
  rw [Finset.sdiff_empty, duties_send X c q s h, bigSep_singleton, payload_send]
theorem rest_recv {r : ℕ} (h : r < 5) : bigSep ((ringRd X).duties (recvCell c q s) r \ ∅) (fun d => (ringRd X).payload (recvCell c q s) r d)
    = slotAt c q s fullShare (land X c q (landOf s r)) := by
  rw [Finset.sdiff_empty, duties_recv X c q s h, bigSep_singleton, payload_recv]

end Sched

end Cert.Proof.AG

end
-- ==== Proof.Levels.lean ====
/- What each device owes at each point of the run, and that every wait stands below it. -/
module

public import proofs.«01_k».proof.Proof.Cells

@[expose] public section

noncomputable section

namespace Cert.Proof.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-- The indices a TensorCore's cells are waited at. -/
def L (g : GSem nD τ sig) : Finset ℕ := if g.1.2 = .tc then Finset.range 64 else ∅
/-- An index is its own level. -/
def lv (_ : GSem nD τ sig) (i : ℕ) : ℕ := i
theorem L_of_ne (g : GSem nD τ sig) (h : g.1.2 ≠ .tc) : L g = ∅ := if_neg h
theorem L_tc (c : Dev nD) (sm : SemLoc sig) : L ((c : Thread nD τ), sm) = Finset.range 64 := if_pos rfl

/-- What is owed for stream `q`: the landings from `a` on, downstream, and the credits from `b` on, upstream. -/
def oweQ (c : Dev nD) (q : Fin 4) (a b : ℕ) : CellTallies nD τ sig ℕ :=
  (∑ j ∈ Finset.Ico a 16, tallyAt (recvCell (dst q c) q (sl j)) (2 * j) N)
    + ∑ r ∈ Finset.Ico b 13, tallyAt (creditCell (src q c) q) (2 * r + 3) 1
/-- What is owed in all. -/
def Owe (c : Dev nD) (a b : Fin 4 → ℕ) : CellTallies nD τ sig ℕ := ∑ q : Fin 4, oweQ c q (a q) (b q)

theorem sum_update {M : Type} [AddCommMonoid M] (f : Fin 4 → ℕ → M) (a : Fin 4 → ℕ) (q : Fin 4) (n : ℕ) (x : M) (h : f q (a q) = f q n + x) :
    ∑ p : Fin 4, f p (a p) = ∑ p : Fin 4, f p (Function.update a q n p) + x := by
  rw [← Finset.add_sum_erase _ _ (Finset.mem_univ q), ← Finset.add_sum_erase (a := q) Finset.univ (fun p => f p (Function.update a q n p)) (Finset.mem_univ q)]
  rw [Finset.sum_congr rfl (g := fun p => f p (Function.update a q n p)) (s₁ := Finset.univ.erase q)
    (fun p hp => by rw [Function.update_of_ne (Finset.ne_of_mem_erase hp)])]
  rw [Function.update_self, h, add_right_comm]

theorem Ico_head {a n : ℕ} (h : a < n) : Finset.Ico a n = insert a (Finset.Ico (a + 1) n) := by
  ext x; rw [Finset.mem_insert, Finset.mem_Ico, Finset.mem_Ico]; omega
theorem Ico_head_not {a n : ℕ} : a ∉ Finset.Ico (a + 1) n := by rw [Finset.mem_Ico]; omega

/-- Starting a transfer pays its landing; -/
theorem Owe_land (c : Dev nD) (a b : Fin 4 → ℕ) (q : Fin 4) (h : a q < 16) :
    Owe c a b = Owe c (Function.update a q (a q + 1)) b + tallyAt (recvCell (dst q c) q (sl (a q))) (2 * a q) N := by
  unfold Owe
  refine sum_update (fun p n => oweQ c p n (b p)) a q (a q + 1) _ ?_
  dsimp only [oweQ]
  rw [Ico_head h, Finset.sum_insert Ico_head_not, add_comm (tallyAt _ _ _), add_right_comm]
/-- past the last there is none to pay; -/
theorem Owe_land_done (c : Dev nD) (a b : Fin 4 → ℕ) (q : Fin 4) (h : 16 ≤ a q) : Owe c a b = Owe c (Function.update a q (a q + 1)) b := by
  unfold Owe
  refine (sum_update (fun p n => oweQ c p n (b p)) a q (a q + 1) 0 (by
    dsimp only [oweQ]; rw [Finset.Ico_eq_empty (a := a q) (by omega), Finset.Ico_eq_empty (a := a q + 1) (by omega), add_zero])).trans (add_zero _)
/-- and so for the credits. -/
theorem Owe_credit (c : Dev nD) (a b : Fin 4 → ℕ) (q : Fin 4) (h : b q < 13) :
    Owe c a b = Owe c a (Function.update b q (b q + 1)) + tallyAt (creditCell (src q c) q) (2 * b q + 3) 1 := by
  unfold Owe
  refine sum_update (fun p n => oweQ c p (a p) n) b q (b q + 1) _ ?_
  dsimp only [oweQ]
  rw [Ico_head h, Finset.sum_insert Ico_head_not, add_comm (tallyAt _ _ _), add_assoc]
theorem Owe_credit_done (c : Dev nD) (a b : Fin 4 → ℕ) (q : Fin 4) (h : 13 ≤ b q) : Owe c a b = Owe c a (Function.update b q (b q + 1)) := by
  unfold Owe
  refine (sum_update (fun p n => oweQ c p (a p) n) b q (b q + 1) 0 (by
    dsimp only [oweQ]; rw [Finset.Ico_eq_empty (a := b q) (by omega), Finset.Ico_eq_empty (a := b q + 1) (by omega), add_zero])).trans (add_zero _)
/-- At the end nothing is owed. -/
theorem Owe_end (c : Dev nD) (a b : Fin 4 → ℕ) (ha : ∀ q, 16 ≤ a q) (hb : ∀ q, 13 ≤ b q) : Owe c a b = 0 := by
  unfold Owe oweQ
  refine Finset.sum_eq_zero fun q _ => ?_
  rw [Finset.Ico_eq_empty (by have := ha q; omega), Finset.Ico_eq_empty (by have := hb q; omega)]; simp

theorem add_pos_or {T T' : CellTallies nD τ sig ℕ} {g : GSem nD τ sig} {ι : ℕ} (h : 0 < (T + T') g ι) : 0 < T g ι ∨ 0 < T' g ι := by
  rw [Pi.add_apply, Finsupp.add_apply] at h; omega
theorem sum_pos {β : Type} {S : Finset β} {f : β → CellTallies nD τ sig ℕ} {g : GSem nD τ sig} {ι : ℕ} (h : 0 < (∑ x ∈ S, f x) g ι) :
    ∃ x ∈ S, 0 < f x g ι := by
  by_contra hn
  rw [Finset.sum_apply, Finsupp.finset_sum_apply] at h
  exact absurd (Finset.sum_eq_zero fun x hx => by by_contra h0; exact hn ⟨x, hx, Nat.pos_of_ne_zero h0⟩) (Nat.pos_iff_ne_zero.mp h)
theorem tally_pos {g g' : GSem nD τ sig} {ι ι' k : ℕ} (h : 0 < (tallyAt g ι k : CellTallies nD τ sig ℕ) g' ι') : g' = g ∧ ι' = ι := by
  rw [tallyAt_apply] at h; by_contra hc; rw [if_neg hc] at h; exact Nat.lt_irrefl 0 h

/-- What is owed is owed at a TensorCore's cell, at a landing's or a credit's index. -/
theorem Owe_pos {c : Dev nD} {a b : Fin 4 → ℕ} {g : GSem nD τ sig} {ι : ℕ} (h : 0 < Owe c a b g ι) :
    ∃ q : Fin 4, g.1.2 = .tc ∧ ι < 64 ∧ (2 * a q ≤ ι ∨ 2 * b q + 3 ≤ ι) := by
  obtain ⟨q, -, hq⟩ := sum_pos h
  refine ⟨q, ?_⟩
  rcases add_pos_or hq with h1 | h1 <;> obtain ⟨j, hj, h2⟩ := sum_pos h1 <;> obtain ⟨rfl, rfl⟩ := tally_pos h2 <;> rw [Finset.mem_Ico] at hj
  · exact ⟨rfl, by omega, Or.inl (by omega)⟩
  · exact ⟨rfl, by omega, Or.inr (by omega)⟩

/-- A wait at an index below everything owed. -/
theorem mayWait_owe (c : Dev nD) (sm : SemLoc sig) (ι : ℕ) (O : CellTallies nD τ sig ℕ) (hι : ι < 64)
    (hO : ∀ g i, 0 < O g i → g.1.2 = .tc ∧ i < 64 ∧ ι < i) :
    (levAts L lv : sProp 𝕄) ⊢ MayWait (c : Thread nD τ) sm ι O :=
  MayOwe.of_cut (L := L) (lev := lv) ι (fun p hp => by rw [Finset.mem_singleton.mp hp, L_tc]; exact Finset.mem_range.mpr hι)
    (fun g i h => by
      obtain ⟨h1, h2, -⟩ := hO g i h
      unfold L; rw [if_pos h1]; exact Finset.mem_range.mpr h2)
    (fun p hp => by rw [Finset.mem_singleton.mp hp]; exact Nat.le_refl _)
    (fun g i h => (hO g i h).2.2)

theorem mayWait (c : Dev nD) (sm : SemLoc sig) (ι : ℕ) (a b : Fin 4 → ℕ) (hι : ι < 64) (ha : ∀ q, ι < 2 * a q) (hb : ∀ q, ι < 2 * b q + 3) :
    (levAts L lv : sProp 𝕄) ⊢ MayWait (c : Thread nD τ) sm ι (Owe c a b) :=
  mayWait_owe c sm ι _ hι fun g i h => by
    obtain ⟨q, h1, h2, h3⟩ := Owe_pos h
    have := ha q; have := hb q
    exact ⟨h1, h2, by omega⟩

/-- What a device owes at launch: the barrier's two signals, every landing and every credit. -/
def O₀ (c : Dev nD) : CellTallies nD τ sig ℕ :=
  Owe c (fun _ => 1) (fun _ => 0) + tallyAt (barCell (prv c)) 1 1 + tallyAt (barCell (nxt c)) 1 1

theorem O₀_pos {c : Dev nD} {g : GSem nD τ sig} {ι : ℕ} (h : 0 < O₀ c g ι) : g.1.2 = .tc ∧ ι < 64 ∧ 0 < ι := by
  rcases add_pos_or h with h | h
  · rcases add_pos_or h with h | h
    · obtain ⟨q, h1, h2, h3⟩ := Owe_pos h
      exact ⟨h1, h2, by omega⟩
    · obtain ⟨rfl, rfl⟩ := tally_pos h; exact ⟨rfl, by decide, by decide⟩
  · obtain ⟨rfl, rfl⟩ := tally_pos h; exact ⟨rfl, by decide, by decide⟩

/-- The staging waits stand below everything. -/
theorem mayWait_stage (c : Dev nD) (q : DmaSem sig) (O : CellTallies nD τ sig ℕ) (hO : O = O₀ c ∨ O = 0) :
    (levAts L lv : sProp 𝕄) ⊢ MayWait (c : Thread nD τ) (.dma q) 0 O := by
  rcases hO with rfl | rfl
  · exact mayWait_owe c _ 0 _ (by decide) fun g i h => O₀_pos h
  · rw [MayWait_zero]; iintro -; iempintro

end Cert.Proof.AG

end
-- ==== Proof.Steps.lean ====
/- One step of the protocol at a time: the waits, the start of a transfer, the credit; at any device, stream and landing. -/
module

public import proofs.«01_k».proof.Proof.Levels

@[expose] public section

set_option maxRecDepth 10000

noncomputable section

namespace Cert.Proof.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

abbrev 𝒱₀ : Variants := Variants.none

variable (X : Dev nD → Vec F S512x8192 .bf16)

/-- One member of a separating conjunction, and the others. -/
theorem take_of {I : Type} [DecidableEq I] {s : Finset I} {i : I} (h : i ∈ s) (Φ : I → sProp 𝕄) :
    bigSep s Φ = iprop(Φ i ∗ bigSep (s.erase i) Φ) := bigSep_erase h

/-! ## The invariants every device may open -/

/-- The kernel's own semaphores: four regular ones, twenty-four for transfers. -/
abbrev osem : Fin 28 → SemLoc sig := fun k =>
  if h : k.val < 4 then .reg ⟨k.val, by show k.val < 5; omega⟩ else .dma ⟨k.val, k.isLt⟩
abbrev kcell (ck : Dev nD × Fin 28) : GSem nD τ sig := ((ck.1 : Thread nD τ), osem ck.2)

abbrev creditIx (q : Fin 4) : Fin 28 := ⟨q.val, by omega⟩
abbrev sendIx (q : Fin 4) (s : Fin 3) : Fin 28 := ⟨4 + (3 * q.val + s.val), by omega⟩
abbrev recvIx (q : Fin 4) (s : Fin 3) : Fin 28 := ⟨16 + (3 * q.val + s.val), by omega⟩
theorem osem_credit (q : Fin 4) : osem (creditIx q) = .reg (creditS q) := dif_pos q.isLt
theorem osem_send (q : Fin 4) (s : Fin 3) : osem (sendIx q s) = .dma (sendS q s) := dif_neg (by dsimp only; omega)
theorem osem_recv (q : Fin 4) (s : Fin 3) : osem (recvIx q s) = .dma (recvS q s) := dif_neg (by dsimp only; omega)

/-- Every cell's invariant, every slot's, and the levels: what all devices share. -/
def Inv (K : GSem nD τ sig → ℕ) (ιs : Key → ℕ) : sProp 𝕄 :=
  iprop(bigSep (Finset.univ : Finset (Dev nD)) (fun c => cellInv ER (ringRd X) (K (barCell c)) (barCell c))
    ∗ bigSep (Finset.univ : Finset (Dev nD × Fin 28)) (fun ck => cellInv ER (ringRd X) (K (kcell ck)) (kcell ck))
    ∗ bigSep (Finset.univ : Finset Key) (fun k => slotInv EK (ιs k) k (slotFree (F := F) k))
    ∗ levAts L lv)
instance Inv_persistent (K : GSem nD τ sig → ℕ) (ιs : Key → ℕ) : BI.Persistent (Inv X K ιs) := by unfold Inv; infer_instance

variable (K : GSem nD τ sig → ℕ) (ιs : Key → ℕ)

theorem Inv_bar (c : Dev nD) : Inv X K ιs ⊢ cellInv ER (ringRd X) (K (barCell c)) (barCell c) := by
  unfold Inv
  rw [take_of (Finset.mem_univ c)]
  iintro ⟨⟨H, -⟩, -⟩; iexact H
theorem Inv_cell (ck : Dev nD × Fin 28) : Inv X K ιs ⊢ cellInv ER (ringRd X) (K (kcell ck)) (kcell ck) := by
  unfold Inv
  rw [take_of (Finset.mem_univ ck)]
  iintro ⟨-, ⟨H, -⟩, -⟩; iexact H
theorem Inv_slot (k : Key) : Inv X K ιs ⊢ slotInv EK (ιs k) k (slotFree (F := F) k) := by
  unfold Inv
  rw [take_of (Finset.mem_univ k)]
  iintro ⟨-, -, ⟨H, -⟩, -⟩; iexact H
theorem Inv_lev : Inv X K ιs ⊢ levAts L lv := by
  unfold Inv
  iintro ⟨-, -, -, H⟩; iexact H
theorem Inv_credit (c : Dev nD) (q : Fin 4) : Inv X K ιs ⊢ cellInv ER (ringRd X) (K (creditCell c q)) (creditCell c q) := by
  have h := Inv_cell (F := F) X K ιs (c, creditIx q)
  unfold kcell at h; rw [osem_credit] at h; exact h
theorem Inv_send (c : Dev nD) (q : Fin 4) (s : Fin 3) : Inv X K ιs ⊢ cellInv ER (ringRd X) (K (sendCell c q s)) (sendCell c q s) := by
  have h := Inv_cell (F := F) X K ιs (c, sendIx q s)
  unfold kcell at h; rw [osem_send] at h; exact h
theorem Inv_recv (c : Dev nD) (q : Fin 4) (s : Fin 3) : Inv X K ιs ⊢ cellInv ER (ringRd X) (K (recvCell c q s)) (recvCell c q s) := by
  have h := Inv_cell (F := F) X K ιs (c, recvIx q s)
  unfold kcell at h; rw [osem_recv] at h; exact h

/-! ## The waits -/

/-- A cell's owner at the start of round `R`. -/
def curs (g : GSem nD τ sig) (R : ℕ) : sProp 𝕄 := iprop(atPos ER g R ∅ 0 ∗ reached ER g R)
/-- The device owes `O`, whatever waits are on record. -/
def ow (c : Dev nD) (O : CellTallies nD τ sig ℕ) : sProp 𝕄 := iprop(∃ W, owes (c : Thread nD τ) O W)

section Steps
/-- Device `c` runs the rest `p` of its program and ends in `Q`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable {α : Type} {Q : α → sProp (MT nD τ sig ℕ (Elt F) ℕ UU ℕ)} {k : PUnit → Prog (TpuEff nD τ sig (Elt F) Λ₀ .tc) α}

/-- The wait for landing `j`: the place is back, holding it. -/
theorem step_recv (c : Dev nD) (q : Fin 4) (j : ℕ) (h1 : 1 ≤ j) (h2 : j ≤ 15) (O : CellTallies nD τ sig ℕ)
    (hO : (levAts L lv : sProp 𝕄) ⊢ MayWait (c : Thread nD τ) (.dma (recvS q (sl j))) (2 * j) O)
    {sem : DmaSem sig} (hs : sem = recvS q (sl j)) {sM dM : Memref sig .tc .vmem S128x8192 .bf16}
    {w1 : sM.view.WordExact} {w2 : dM.view.WordExact} (hN : dM.view.dmaCredit = N) :
    iprop(Inv X K ιs ∗ ow c O ∗ curs (recvCell c q (sl j)) ((j - 1) / 3) ∗ cred (tallyAt (recvCell c q (sl j)) (2 * j) N))
      ⊢ iprop(((ow c O ∗ curs (recvCell c q (sl j)) ((j - 1) / 3 + 1) ∗ slotAt c q (sl j) fullShare (land X c q j))
            -∗ runs c (k ⟨⟩) Q)
          -∗ runs c (.op (.waitDma2 sem sM dM w1 w2) k) Q) := by
  subst hs
  have hmay := (Inv_lev (F := F) X K ιs).trans hO
  unfold ow curs
  iintro ⟨#HI, ⟨%W, HO⟩, ⟨Hat, -⟩, Hc⟩ Hk
  iapply (Rounds.wp_wait_rest_token 𝒱₀ ER (ringRd X) (c : Thread nD τ) none (κ := K (recvCell c q (sl j)))
      (wpE_waitDma2_eq (src := sM) (dst := dM) 𝒱₀ (c : Thread nD τ) none Set.univ) (Set.mem_univ _) (2 * j) (O := O) (W := W) (R := (j - 1) / 3) (m := 0) (T := ∅)
      ((Nat.zero_add _).trans (hN.trans (expect_recv X c q (sl j) (by omega)).symm))) $$ [Hc HO Hat]
  · isplitr; · iapply (Inv_recv (F := F) X K ιs c q (sl j)); iexact HI
    isplitl [Hc]; · rw [hN]; iexact Hc
    isplitl [HO]; · iexact HO
    isplitr; · iapply hmay; iexact HI
    iexact Hat
  iintro ⟨HO, Hat, #Hr, Hpay⟩
  ihave Hp := (Entails.of_eq (rest_recv X c q (sl j) (r := (j - 1) / 3) (by omega))) $$ Hpay
  rw [landOf_eq j h1]
  iapply Hk
  isplitl [HO]; · iexists _; iexact HO
  isplitl [Hat]
  · isplitl [Hat]; · iexact Hat
    iexact Hr
  iexact Hp

/-- The wait for transfer `j` to have left: the lent half of its place is back. -/
theorem step_sent (c : Dev nD) (q : Fin 4) (j : ℕ) (h2 : j ≤ 14) (O : CellTallies nD τ sig ℕ)
    (hO : (levAts L lv : sProp 𝕄) ⊢ MayWait (c : Thread nD τ) (.dma (sendS q (sl j))) 0 O)
    {sem : DmaSem sig} (hs : sem = sendS q (sl j)) {sM dM : Memref sig .tc .vmem S128x8192 .bf16}
    {w1 : sM.view.WordExact} {w2 : dM.view.WordExact} (hN : dM.view.dmaCredit = N) :
    iprop(Inv X K ιs ∗ ow c O ∗ curs (sendCell c q (sl j)) (j / 3) ∗ cred (tallyAt (sendCell c q (sl j)) 0 N))
      ⊢ iprop(((ow c O ∗ curs (sendCell c q (sl j)) (j / 3 + 1) ∗ slotAt c q (sl j) fullShare.right (land X c q j))
            -∗ runs c (k ⟨⟩) Q)
          -∗ runs c (.op (.waitDma2 sem sM dM w1 w2) k) Q) := by
  subst hs
  have hmay := (Inv_lev (F := F) X K ιs).trans hO
  unfold ow curs
  iintro ⟨#HI, ⟨%W, HO⟩, ⟨Hat, -⟩, Hc⟩ Hk
  iapply (Rounds.wp_wait_rest_token 𝒱₀ ER (ringRd X) (c : Thread nD τ) none (κ := K (sendCell c q (sl j)))
      (wpE_waitDma2_eq (src := sM) (dst := dM) 𝒱₀ (c : Thread nD τ) none Set.univ) (Set.mem_univ _) 0 (O := O) (W := W) (R := j / 3) (m := 0) (T := ∅)
      ((Nat.zero_add _).trans (hN.trans (expect_send X c q (sl j) (by omega)).symm))) $$ [Hc HO Hat]
  · isplitr; · iapply (Inv_send (F := F) X K ιs c q (sl j)); iexact HI
    isplitl [Hc]; · rw [hN]; iexact Hc
    isplitl [HO]; · iexact HO
    isplitr; · iapply hmay; iexact HI
    iexact Hat
  iintro ⟨HO, Hat, #Hr, Hpay⟩
  ihave Hp := (Entails.of_eq (rest_send X c q (sl j) (r := j / 3) (by omega))) $$ Hpay
  rw [show 3 * (j / 3) + (sl j).val = j from by dsimp only; omega]
  iapply Hk
  isplitl [HO]; · iexists _; iexact HO
  isplitl [Hat]
  · isplitl [Hat]; · iexact Hat
    iexact Hr
  iexact Hp

/-- Credits consumed so far: `m` of them, with what at least `m` said. -/
def credits (c : Dev nD) (q : Fin 4) (m : ℕ) : sProp 𝕄 :=
  iprop(∃ S : Finset ℕ, ⌜m ≤ S.card ∧ S ⊆ Finset.range 13⌝ ∗ atPos ER (creditCell c q) 0 S m
    ∗ bigSep S (fun d => creditPay (dst q c) q d))

omit [FloatOps F] in
theorem exists_large {S : Finset ℕ} {m : ℕ} (h : m + 1 ≤ S.card) : ∃ j ∈ S, m ≤ j := by
  by_contra hn
  have : S ⊆ Finset.range m := fun x hx => Finset.mem_range.mpr (by by_contra h'; exact hn ⟨x, hx, by omega⟩)
  have := Finset.card_le_card this
  rw [Finset.card_range] at this; omega

/-- A credit for some landing from `m` on frees landing `m + 3`. -/
theorem freed_of_credit {D : Dev nD} {q : Fin 4} {m j : ℕ} (h : m ≤ j) : creditPay (F := F) D q j ⊢ freed D q (m + 3) := by
  unfold creditPay
  rcases (by omega : j % 3 = m % 3 ∨ (j + 2) % 3 = m % 3 ∨ (j + 1) % 3 = m % 3) with h3 | h3 | h3
  · iintro ⟨-, -, H⟩; iapply (freed_mono (i' := j + 3) (by omega) (by omega)); iexact H
  · iintro ⟨-, H, -⟩; iapply (freed_mono (i' := j + 2) (by omega) (by omega)); iexact H
  · iintro ⟨H, -, -⟩; iapply (freed_mono (i' := j + 1) (by omega) (by omega)); iexact H

/-- The wait for a credit: the landing three on may be written downstream. -/
theorem step_credit (c : Dev nD) (q : Fin 4) (m : ℕ) (O : CellTallies nD τ sig ℕ)
    (hO : (levAts L lv : sProp 𝕄) ⊢ MayWait (c : Thread nD τ) (.reg (creditS q)) (2 * m + 3) O)
    {sem : Sem sig} (hs : sem = creditS q) :
    iprop(Inv X K ιs ∗ ow c O ∗ credits (F := F) c q m ∗ cred (tallyAt (creditCell c q) (2 * m + 3) 1))
      ⊢ iprop(((ow c O ∗ credits (F := F) c q (m + 1) ∗ freed (dst q c) q (m + 3))
            -∗ runs c (k ⟨⟩) Q)
          -∗ runs c (.op (.semWait sem (1#32 : BitVec 32).toInt) k) Q) := by
  subst hs
  have hmay := (Inv_lev (F := F) X K ιs).trans hO
  unfold ow credits
  rw [show (1#32 : BitVec 32).toInt = ((1#32 : BitVec 32).toNat : Int) from rfl]
  iintro ⟨#HI, ⟨%W, HO⟩, ⟨%T, %hT, Hat, #Hold⟩, Hc⟩ Hk
  iapply (Rounds.wp_wait 𝒱₀ ER (ringRd X) (c : Thread nD τ) none (κ := K (creditCell c q))
      (wpE_semWait_eq 𝒱₀ (c : Thread nD τ) none Set.univ) (Set.mem_univ _) (cr := Finsupp.single (2 * m + 3) 1)
      (O := O) (W := W) {(SemLoc.reg (creditS q), 2 * m + 3)} (R := 0) (m := m) (T := T)
      (by rw [Util.total_single]; rfl) (by rw [Finsupp.support_single_ne_zero _ (by decide), Finset.image_singleton])) $$ [Hc HO Hat]
  · isplitr; · iapply (Inv_credit (F := F) X K ιs c q); iexact HI
    isplitl [Hc]; · iexact Hc
    isplitl [HO]; · iexact HO
    isplitr; · iapply hmay; iexact HI
    iexact Hat
  iintro %S ⟨%hS, HO, Hat, Hpay⟩
  have hcard : m + 1 ≤ S.card := by
    obtain ⟨-, h2, h3⟩ := hS
    rw [expect_credit, duties_credit] at h3
    rw [duties_credit] at h2
    have := Finset.card_sdiff_add_card_eq_card h2
    rw [Finset.card_range] at this
    have h4 : (1#32 : BitVec 32).toNat = 1 := rfl
    omega
  have hsub : S ⊆ Finset.range 13 := by have := hS.2.1; rwa [duties_credit] at this
  have hall : iprop(bigSep T (fun d => creditPay (F := F) (dst q c) q d) ∗ bigSep (S \ T) (fun d => (ringRd X).payload (creditCell c q) 0 d))
      ⊢ bigSep S (fun d => creditPay (F := F) (dst q c) q d) := by
    rw [bigSep_congr (s := S \ T) (fun d _ => payload_credit X c q 0 d)]
    conv => rhs; rw [← Finset.union_sdiff_of_subset hS.1, bigSep_union Finset.disjoint_sdiff]
    exact BI.Entails.refl _
  ihave #Hnew := hall $$ [Hpay]
  · isplitr; · iexact Hold
    iexact Hpay
  obtain ⟨j, hj, hmj⟩ := exists_large hcard
  have hget : bigSep S (fun d => creditPay (F := F) (dst q c) q d) ⊢ freed (dst q c) q (m + 3) := by
    rw [take_of hj]
    iintro ⟨H, -⟩; iapply (freed_of_credit hmj); iexact H
  iapply Hk
  isplitl [HO]; · iexists _; iexact HO
  isplitl [Hat]
  · iexists S; isplitr; · ipureintro; exact ⟨hcard, hsub⟩
    isplitl [Hat]; · iexact Hat
    iexact Hnew
  iapply hget; iexact Hnew

/-! ## The start of a transfer -/

theorem read_slotQ (q : Fin 4) (s : Fin 3) (f : (slotQ q s).view.ty.Contents (Elt F)) (x : S128x8192.Idx) :
    (slotQ q s).view.read (Elt F) f x = (slotM q s).view.read (Elt F) f (Shape.reshapeEquiv squeezes_S1x1x128x8192_S128x8192.numel_eq x) := rfl

/-- What a transfer leaves in the place it lands in is what the place it left from read. -/
theorem read_sent (q : Fin 4) (s s' : Fin 3) (fs : (slotQ q s).view.ty.Contents (Elt F)) (fd : (slotQ q s').view.ty.Contents (Elt F)) :
    (slotM q s').view.read (Elt F) ((slotQ q s').view.write (Elt F) fd ((slotQ q s).view.read (Elt F) fs) Finset.univ)
      = (slotM q s).view.read (Elt F) fs := by
  funext y
  obtain ⟨x, rfl⟩ := (Shape.reshapeEquiv squeezes_S1x1x128x8192_S128x8192.numel_eq).surjective y
  rw [← read_slotQ q s fs x]
  exact View.read_write_reshape (slotM q s').view squeezes_S1x1x128x8192_S128x8192.numel_eq fd ((slotQ q s).view.read (Elt F) fs) x

/-- The place a transfer names and the place it is a row of are the same elements. -/
theorem slotQ_pt (c : Dev nD) (q : Fin 4) (s : Fin 3) (sh : PosShare TreeShare) (f : (slotQ q s).view.ty.Contents (Elt F)) :
    ((slotQ q s).view.loc (c : Thread nD τ) ↦[(slotQ q s).view.set]{sh} f : sProp 𝕄)
      = ((slotM q s).view.loc (c : Thread nD τ) ↦[(slotM q s).view.set]{sh} f : sProp 𝕄) :=
  congrArg (fun I => ((slotM q s).view.loc (c : Thread nD τ) ↦[I]{sh} f : sProp 𝕄))
    (View.set_reshape (v := (slotM q s).view) squeezes_S1x1x128x8192_S128x8192.numel_eq)

/-- A free place, as a transfer names it. -/
theorem slotFree_open (c : Dev nD) (q : Fin 4) (s : Fin 3) : slotFree (F := F) (c, q, s)
    ⊢ iprop(∃ fd : (slotQ q s).view.ty.Contents (Elt F), ((slotQ q s).view.loc (c : Thread nD τ) ↦[(slotQ q s).view.set]{fullShare} fd : sProp 𝕄)) := by
  unfold slotFree Release.slot
  iintro ⟨%f, H⟩
  iexists f
  rw [slotQ_pt]
  iexact H

/-- The half of a place that a transfer lends comes back as the send round's payload. -/
theorem pay_sent (c : Dev nD) (q : Fin 4) (j : ℕ) (fs : (slotQ q (sl j)).view.ty.Contents (Elt F))
    (hfs : (slotM q (sl j)).view.read (Elt F) fs = land X c q j) :
    ((slotQ q (sl j)).view.loc (c : Thread nD τ) ↦[(slotQ q (sl j)).view.set]{fullShare.right} fs : sProp 𝕄)
      ⊢ (ringRd X).payload ((c : Thread nD τ), .dma (sendS q (sl j))) (j / 3) 0 := by
  have e : (ringRd X).payload ((c : Thread nD τ), .dma (sendS q (sl j))) (j / 3) 0 = slotAt c q (sl j) fullShare.right (land X c q j) := by
    rw [payload_send X c q (sl j) (j / 3) 0, show 3 * (j / 3) + (sl j).val = j from by dsimp only; omega]
  rw [e, ← hfs, slotQ_pt]
  exact owns_intro (c : Thread nD τ) (slotM q (sl j)) fullShare.right fs

/-- What a transfer writes downstream is the landing round's payload. -/
theorem pay_landed (c : Dev nD) (q : Fin 4) (j : ℕ) (fs : (slotQ q (sl j)).view.ty.Contents (Elt F)) (fd : (slotQ q (sl (j + 1))).view.ty.Contents (Elt F))
    (hfs : (slotM q (sl j)).view.read (Elt F) fs = land X c q j) :
    ((slotQ q (sl (j + 1))).view.loc (dst q c : Thread nD τ) ↦[(slotQ q (sl (j + 1))).view.set]{fullShare}
        ((slotQ q (sl (j + 1))).view.write (Elt F) fd ((slotQ q (sl j)).view.read (Elt F) fs) Finset.univ) : sProp 𝕄)
      ⊢ (ringRd X).payload ((dst q c : Thread nD τ), .dma (recvS q (sl (j + 1)))) (j / 3) 0 := by
  have e : (ringRd X).payload ((dst q c : Thread nD τ), .dma (recvS q (sl (j + 1)))) (j / 3) 0
      = slotAt (dst q c) q (sl (j + 1)) fullShare (land X (dst q c) q (j + 1)) := by
    rw [payload_recv X (dst q c) q (sl (j + 1)) (j / 3) 0, show landOf (sl (j + 1)) (j / 3) = j + 1 from landOf_eq (j + 1) (by omega)]
  have h : land X (dst q c) q (j + 1) = land X c q j := by unfold land; rw [org_dst]
  rw [e, h, ← hfs, ← read_sent q (sl j) (sl (j + 1)) fs fd, slotQ_pt]
  exact owns_intro (dst q c : Thread nD τ) (slotM q (sl (j + 1))) fullShare _

/-- Transfer `j` starts: the place downstream is taken, half of the place here lent. -/
theorem step_start (c : Dev nD) (q : Fin 4) (j : ℕ) (h2 : j ≤ 14) (a b : Fin 4 → ℕ) (ha : a q = j + 1)
    {d : Dev nD} (hd : d = dst q c) {sS sR : DmaSem sig} (hs : sS = sendS q (sl j)) (hr : sR = recvS q (sl (j + 1)))
    {sM dM : Memref sig .tc .vmem S128x8192 .bf16} (hsM : sM = slotQ q (sl j)) (hdM : dM = slotQ q (sl (j + 1)))
    {w1 : sM.view.WordExact} {w2 : dM.view.WordExact} {hsc : dM.view.ref.isScScratch = false}
    {ht : DmaTarget.Typed .vmem (.dma sR) (.remote (Dev.tc d) dM (.dma sS) hsc)} :
    iprop(Inv X K ιs ∗ ow c (Owe c a b) ∗ slotAt c q (sl j) fullShare.right (land X c q j) ∗ freed (dst q c) q (j + 1)
        ∗ reached ER (sendCell c q (sl j)) (j / 3)
        ∗ dutyTok ER (sendCell c q (sl j)) (j / 3) 0 ∗ dutyTok ER (recvCell (dst q c) q (sl (j + 1))) (j / 3) 0
        ∗ writeTok EK (dst q c, q, sl (j + 1)) ((j + 3) / 3))
      ⊢ iprop(((ow c (Owe c (Function.update a q (j + 2)) b) ∗ cred (tallyAt (sendCell c q (sl j)) 0 N))
            -∗ runs c (k ⟨⟩) Q)
          -∗ wp frame (wpE (defs₀ (F := F)) 𝒱₀ (c : Thread nD τ) none) Set.univ
              (.op (.enqueueDma sM (.remote (Dev.tc d) dM (.dma sS) hsc) (.dma sR) w1 w2 ht) k) Q) := by
  subst hd hs hr hsM hdM
  have hO : Owe c a b = Owe c (Function.update a q (j + 2)) b + tallyAt ((dst q c : Thread nD τ), .dma (recvS q (sl (j + 1)))) (2 * (j + 1)) N := by
    have := Owe_land c a b q (by omega); rw [ha] at this; exact this
  unfold ow freed slotAt owns
  iintro ⟨#HI, ⟨%W, HO⟩, ⟨%fs, %hfs, Hs⟩, ⟨#Hrel, #HrR⟩, #HrS, HtS, HtR, Hw⟩ Hk
  ihave #HIs := (Inv_slot (F := F) X K ιs (dst q c, q, sl (j + 1))) $$ HI
  imod (slot_take EK (Set.mem_univ _) ((j + 3) / 3)) $$ [Hw] with Hfree
  · isplitr; · iexact HIs
    isplitr; · iexact Hrel
    iexact Hw
  icases (slotFree_open (dst q c) q (sl (j + 1))) $$ Hfree with ⟨%fd, Hd⟩
  ihave Hs := (Entails.of_eq (slotQ_pt c q (sl j) fullShare.right fs).symm) $$ Hs
  iapply (Rounds.wp_send_pointsTo 𝒱₀ ER (ringRd X) (c : Thread nD τ) none (c' := (dst q c : Thread nD τ)) (src := slotQ q (sl j)) (dst := slotQ q (sl (j + 1)))
      (sS := .dma (sendS q (sl j))) (sem := .dma (recvS q (sl (j + 1)))) (q := fullShare.right) (fs := fs) (fd := fd)
      (κ₁ := K (sendCell c q (sl j))) (κ₂ := K (recvCell (dst q c) q (sl (j + 1))))
      (r₁ := j / 3) (r₂ := j / 3) (d₁ := 0) (d₂ := 0)
      (by rw [duties_send X c q _ (by omega)]; exact Finset.mem_singleton_self _)
      (by rw [duties_recv X _ q _ (by omega)]; exact Finset.mem_singleton_self _)
      (2 * (j + 1)) 0 N rfl (amount_send X c q _ _ _) (amount_recv X _ q _ _ _)
      (O₀ := Owe c a b) (Owe c (Function.update a q (j + 2)) b) hO (W := W)
      (pay_sent X c q j fs hfs) (pay_landed X c q j fs fd hfs)) $$ [Hs Hd HO HtS HtR]
  · isplitr; · iapply (Inv_send (F := F) X K ιs c q (sl j)); iexact HI
    isplitr; · iapply (Inv_recv (F := F) X K ιs (dst q c) q (sl (j + 1))); iexact HI
    isplitl [Hs]; · iexact Hs
    isplitl [Hd]; · iexact Hd
    isplitl [HO]; · iexact HO
    isplitl [HtS]; · iexact HtS
    isplitr; · iexact HrS
    isplitl [HtR]; · iexact HtR
    iexact HrR
  iintro ⟨Hc, HO⟩
  iapply Hk
  isplitl [HO]; · iexists _; iexact HO
  iexact Hc

/-! ## The credit -/

/-- The place of landing `t` is freed for landing `t + 3`, and the upstream device told. -/
theorem step_signal (c : Dev nD) (q : Fin 4) (t : ℕ) (h2 : t ≤ 12) (a b : Fin 4 → ℕ) (hb : b q = t)
    {d : Dev nD} (hd : d = src q c) {sem : Sem sig} (hs : sem = creditS q) :
    iprop(Inv X K ιs ∗ ow c (Owe c a b) ∗ slotFree (F := F) (c, q, sl t) ∗ readerAt EK (c, q, sl t) ((t + 2) / 3)
        ∗ freed c q (t + 1) ∗ freed c q (t + 2) ∗ reached ER (recvCell c q (sl (t + 3))) ((t + 2) / 3)
        ∗ dutyTok ER (creditCell (src q c) q) 0 t ∗ reached ER (creditCell (src q c) q) 0)
      ⊢ iprop(((ow c (Owe c a (Function.update b q (t + 1))) ∗ readerAt EK (c, q, sl t) ((t + 2) / 3 + 1) ∗ freed c q (t + 3))
            -∗ runs c (k ⟨⟩) Q)
          -∗ wp frame (wpE (defs₀ (F := F)) 𝒱₀ (c : Thread nD τ) none) Set.univ
              (.op (.semSignal (Dev.tc d) sem (1#32 : BitVec 32).toInt) k) Q) := by
  subst hd hs
  have hO : Owe c a b = Owe c a (Function.update b q (t + 1)) + tallyAt ((src q c : Thread nD τ), .reg (creditS q)) (2 * t + 3) 1 := by
    have := Owe_credit c a b q (by omega); rw [hb] at this; exact this
  unfold ow
  rw [show (1#32 : BitVec 32).toInt = ((1#32 : BitVec 32).toNat : Int) from rfl]
  iintro ⟨#HI, ⟨%W, HO⟩, Hf, Hrd, #H1, #H2, #HrR, Ht, #HrC⟩ Hk
  ihave #HIs := (Inv_slot (F := F) X K ιs (c, q, sl t)) $$ HI
  imod (slot_release EK (Set.mem_univ _) (slot_slot_false (ℓ := (slotM q (sl t)).view.loc (c : Thread nD τ)) (slot_nonempty q (sl t))) ((t + 2) / 3)) $$ [Hf Hrd] with ⟨Hrd, #Hrel⟩
  · isplitr; · iexact HIs
    isplitl [Hrd]; · iexact Hrd
    iexact Hf
  have e : sl (t + 3) = sl t := Fin.ext (by dsimp only; omega)
  have hfr : iprop(released EK (c, q, sl t) ((t + 2) / 3 + 1) ∗ reached ER (recvCell c q (sl (t + 3))) ((t + 2) / 3)) ⊢ freed (F := F) c q (t + 3) := by
    unfold freed
    rw [e, show (t + 3 + 2) / 3 = (t + 2) / 3 + 1 from by omega, show (t + 3 - 1) / 3 = (t + 2) / 3 from by omega]
  ihave #H3 := hfr $$ []
  · isplitr; · iexact Hrel
    iexact HrR
  have hpay : (ringRd X).payload ((src q c : Thread nD τ), .reg (creditS q)) 0 t = creditPay c q t := by
    rw [payload_credit X (src q c) q 0 t, dst_src]
  iapply (Rounds.wp_signal 𝒱₀ ER (ringRd X) (c : Thread nD τ) none (dst := (src q c : Thread nD τ)) (sem := creditS q) (r := 0) (d := t)
      (κ := K (creditCell (src q c) q))
      (by rw [duties_credit]; exact Finset.mem_range.mpr (by omega)) (amount_credit X (src q c) q 0 t) (2 * t + 3)
      (O₀ := Owe c a b) (Owe c a (Function.update b q (t + 1))) hO) $$ [HO Ht]
  · isplitr; · iapply (Inv_credit (F := F) X K ιs (src q c) q); iexact HI
    isplitl [HO]; · iexact HO
    isplitl [Ht]; · iexact Ht
    isplitr
    · rw [hpay]; unfold creditPay
      isplitr; · iexact H1
      isplitr; · iexact H2
      iexact H3
    iexact HrC
  iintro HO
  iapply Hk
  isplitl [HO]; · iexists _; iexact HO
  isplitl [Hrd]; · iexact Hrd
  iexact H3

end Steps

end Cert.Proof.AG

end
-- ==== Proof.State.lean ====
/- What a device holds of one stream at the start of a trip, and how the trip's steps move it. -/
module

public import proofs.«01_k».proof.Proof.Steps

@[expose] public section

set_option maxRecDepth 10000

noncomputable section

namespace Cert.Proof.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → Vec F S512x8192 .bf16)
variable (K : GSem nD τ sig → ℕ) (ιs : Key → ℕ)

theorem take_head {a n : ℕ} (h : a < n) (Φ : ℕ → sProp 𝕄) : bigSep (Finset.Ico a n) Φ = iprop(Φ a ∗ bigSep (Finset.Ico (a + 1) n) Φ) := by
  rw [Ico_head h]; exact bigSep_insert Ico_head_not
theorem sl3 (t : ℕ) : sl (t + 3) = sl t := Fin.ext (by dsimp only; omega)

/-! ## The state -/

/-- The cursors of the send cells: transfers `t`, `t + 1`, `t + 2` come next. -/
def sends (c : Dev nD) (q : Fin 4) (t : ℕ) : sProp 𝕄 :=
  iprop(curs (sendCell c q (sl t)) (t / 3) ∗ curs (sendCell c q (sl (t + 1))) ((t + 1) / 3) ∗ curs (sendCell c q (sl (t + 2))) ((t + 2) / 3))
/-- The cursors of the receive cells: landings `t + 1`, `t + 2`, `t + 3` come next. -/
def recvs (c : Dev nD) (q : Fin 4) (t : ℕ) : sProp 𝕄 :=
  iprop(curs (recvCell c q (sl (t + 1))) (t / 3) ∗ curs (recvCell c q (sl (t + 2))) ((t + 1) / 3) ∗ curs (recvCell c q (sl (t + 3))) ((t + 2) / 3))
/-- The permission to wait for the landings after `t`. -/
def lands (c : Dev nD) (q : Fin 4) (t : ℕ) : sProp 𝕄 :=
  bigSep (Finset.Ico (t + 1) 16) fun j => cred (tallyAt (recvCell c q (sl j)) (2 * j) N)
/-- The place of landing `t`: half of it lent to transfer `t`, which is under way; the last one whole. -/
def hold (c : Dev nD) (q : Fin 4) (t : ℕ) : sProp 𝕄 :=
  if t ≤ 14 then iprop(slotAt c q (sl t) fullShare.left (land X c q t) ∗ cred (tallyAt (sendCell c q (sl t)) 0 N))
  else slotAt c q (sl t) fullShare (land X c q t)
/-- The turns to start the transfers after `t`. -/
def toks (c : Dev nD) (q : Fin 4) (t : ℕ) : sProp 𝕄 :=
  bigSep (Finset.Ico (t + 1) 15) fun j => iprop(dutyTok ER (sendCell c q (sl j)) (j / 3) 0
    ∗ dutyTok ER (recvCell (dst q c) q (sl (j + 1))) (j / 3) 0 ∗ writeTok EK (dst q c, q, sl (j + 1)) ((j + 3) / 3))
/-- The credits taken before trip `t`, and the permission to wait for the others. -/
def taken (c : Dev nD) (q : Fin 4) (t : ℕ) : sProp 𝕄 :=
  iprop(credits c q (min (t - 1) 13) ∗ bigSep (Finset.Ico (t - 1) 13) fun r => cred (tallyAt (creditCell c q) (2 * r + 3) 1))
/-- The turns to free the places, and the last two places, which nobody writes again. -/
def rels (c : Dev nD) (q : Fin 4) (t : ℕ) : sProp 𝕄 :=
  iprop((if t ≤ 13 then iprop((readerAt EK (c, q, sl t) ((t + 2) / 3) ∗ readerAt EK (c, q, sl (t + 1)) ((t + 3) / 3) ∗ readerAt EK (c, q, sl (t + 2)) ((t + 4) / 3))
        ∗ freed c q (t + 1) ∗ freed c q (t + 2)) else emp)
    ∗ (bigSep (Finset.Ico t 13) fun r => dutyTok ER (creditCell (src q c) q) 0 r)
    ∗ (if 14 ≤ t then slotFree (F := F) (c, q, 1) else emp) ∗ (if 15 ≤ t then slotFree (F := F) (c, q, 2) else emp))
/-- What the neighbours said at the barrier. -/
def heard (c : Dev nD) (q : Fin 4) : sProp 𝕄 :=
  iprop(freed (dst q c) q 2 ∗ reached ER (creditCell (src q c) q) 0)
instance heard_persistent (c : Dev nD) (q : Fin 4) : BI.Persistent (heard (F := F) c q) := by unfold heard; infer_instance

/-- A stream between its waits and the start of its next transfer. -/
def stW (c : Dev nD) (q : Fin 4) (t : ℕ) : sProp 𝕄 :=
  iprop(sends c q (t + 1) ∗ recvs c q (t + 1) ∗ lands c q (t + 1) ∗ slotAt c q (sl (t + 1)) fullShare (land X c q (t + 1))
    ∗ toks c q t ∗ taken c q t ∗ rels c q t ∗ slotFree (F := F) (c, q, sl t) ∗ reached ER (recvCell c q (sl (t + 3))) ((t + 2) / 3))
/-- A stream after the wait for its credit. -/
def stC (c : Dev nD) (q : Fin 4) (t : ℕ) : sProp 𝕄 :=
  iprop(sends c q (t + 1) ∗ recvs c q (t + 1) ∗ lands c q (t + 1) ∗ slotAt c q (sl (t + 1)) fullShare (land X c q (t + 1))
    ∗ toks c q t ∗ taken c q (t + 1) ∗ rels c q t ∗ slotFree (F := F) (c, q, sl t) ∗ reached ER (recvCell c q (sl (t + 3))) ((t + 2) / 3)
    ∗ freed (dst q c) q (t + 2))
/-- A stream between the start of its transfer and its signal. -/
def stS (c : Dev nD) (q : Fin 4) (t : ℕ) : sProp 𝕄 :=
  iprop(sends c q (t + 1) ∗ recvs c q (t + 1) ∗ lands c q (t + 1) ∗ hold X c q (t + 1)
    ∗ toks c q (t + 1) ∗ taken c q (t + 1) ∗ rels c q t ∗ slotFree (F := F) (c, q, sl t) ∗ reached ER (recvCell c q (sl (t + 3))) ((t + 2) / 3))
/-- A stream at the start of trip `t`. -/
def st (c : Dev nD) (q : Fin 4) (t : ℕ) : sProp 𝕄 :=
  iprop(sends c q t ∗ recvs c q t ∗ lands c q t ∗ hold X c q t ∗ toks c q t ∗ taken c q t ∗ rels c q t)

section Moves
variable {α : Type} {Q : α → sProp (MT nD τ sig ℕ (Elt F) ℕ UU ℕ)} {k : PUnit → Prog (TpuEff nD τ sig (Elt F) Λ₀ .tc) α}

theorem owns_slotFree (c : Dev nD) (q : Fin 4) (s : Fin 3) (Y : Vec F S1x1x128x8192 .bf16) :
    slotAt c q s fullShare Y ⊢ slotFree (c, q, s) := by
  unfold slotAt owns slotFree Release.slot
  iintro ⟨%f, -, H⟩
  iexists f; iexact H

/-- The wait for landing `t + 1`, then for transfer `t` to have left. -/
theorem st_waits (c : Dev nD) (q : Fin 4) (t : ℕ) (ht : t ≤ 14) (O : CellTallies nD τ sig ℕ)
    (hO : (levAts L lv : sProp 𝕄) ⊢ MayWait (c : Thread nD τ) (.dma (recvS q (sl (t + 1)))) (2 * (t + 1)) O)
    (hO' : (levAts L lv : sProp 𝕄) ⊢ MayWait (c : Thread nD τ) (.dma (sendS q (sl t))) 0 O)
    {s1 s2 : DmaSem sig} (h1 : s1 = recvS q (sl (t + 1))) (h2 : s2 = sendS q (sl t))
    {m1 m2 m3 m4 : Memref sig .tc .vmem S128x8192 .bf16} {w1 : m1.view.WordExact} {w2 : m2.view.WordExact} {w3 : m3.view.WordExact} {w4 : m4.view.WordExact}
    (hN : m2.view.dmaCredit = N) (hN' : m4.view.dmaCredit = N) :
    iprop(Inv X K ιs ∗ ow c O ∗ st X c q t)
      ⊢ iprop(((ow c O ∗ stW X c q t) -∗ runs c (k ⟨⟩) Q)
          -∗ wp frame (wpE (defs₀ (F := F)) 𝒱₀ (c : Thread nD τ) none) Set.univ
              (.op (.waitDma2 s1 m1 m2 w1 w2) fun _ => .op (.waitDma2 s2 m3 m4 w3 w4) k) Q) := by
  unfold st stW sends recvs lands hold
  rw [if_pos ht, take_head (by omega : t + 1 < 16)]
  iintro ⟨#HI, HO, ⟨Hs0, Hs1, Hs2⟩, ⟨Hr0, Hr1, Hr2⟩, ⟨Hc, Hcs⟩, ⟨Hl, Hcr⟩, Htok, Htk, Hrel⟩ Hk
  iapply (step_recv (F := F) X K ιs c q (t + 1) (by omega) (by omega) O hO h1 hN) $$ [HO Hr0 Hc]
  · isplitr; · iexact HI
    isplitl [HO]; · iexact HO
    isplitl [Hr0]; · iexact Hr0
    iexact Hc
  iintro ⟨HO, Hr0, Hnew⟩
  iapply (step_sent (F := F) X K ιs c q t ht O hO' h2 hN') $$ [HO Hs0 Hcr]
  · isplitr; · iexact HI
    isplitl [HO]; · iexact HO
    isplitl [Hs0]; · iexact Hs0
    iexact Hcr
  iintro ⟨HO, Hs0, Hrt⟩
  have eR : (curs (recvCell c q (sl (t + 1))) ((t + 1 - 1) / 3 + 1) : sProp 𝕄) = curs (recvCell c q (sl (t + 1 + 3))) ((t + 1 + 2) / 3) := by
    rw [sl3, show (t + 1 - 1) / 3 + 1 = (t + 1 + 2) / 3 from by omega]
  have eS : (curs (sendCell c q (sl t)) (t / 3 + 1) : sProp 𝕄) = curs (sendCell c q (sl (t + 1 + 2))) ((t + 1 + 2) / 3) := by
    rw [show t + 1 + 2 = t + 3 from rfl, sl3, show t / 3 + 1 = (t + 3) / 3 from by omega]
  have hreach : (curs (recvCell c q (sl (t + 3))) ((t + 2) / 3) : sProp 𝕄)
      ⊢ iprop(curs (recvCell c q (sl (t + 1 + 2))) ((t + 1 + 1) / 3) ∗ reached ER (recvCell c q (sl (t + 3))) ((t + 2) / 3)) := by
    unfold curs
    iintro ⟨H, #Hr⟩
    isplitl [H]
    · isplitl [H]; · iexact H
      iexact Hr
    iexact Hr
  ihave ⟨Hr2, Hreach⟩ := hreach $$ Hr2
  ihave Hr0 := (Entails.of_eq eR) $$ Hr0
  ihave Hs0 := (Entails.of_eq eS) $$ Hs0
  have hfree : iprop(slotAt c q (sl t) fullShare.left (land X c q t) ∗ slotAt c q (sl t) fullShare.right (land X c q t)) ⊢ slotFree (F := F) (c, q, sl t) :=
    ((owns_halves (c : Thread nD τ) (slotM q (sl t)) fullShare (land X c q t)).2).trans (owns_slotFree c q (sl t) (land X c q t))
  ihave Hfree := hfree $$ [Hl Hrt]
  · isplitl [Hl]; · iexact Hl
    iexact Hrt
  iapply Hk
  isplitl [HO]; · iexact HO
  isplitl [Hs0 Hs1 Hs2]
  · isplitl [Hs1]; · iexact Hs1
    isplitl [Hs2]; · iexact Hs2
    iexact Hs0
  isplitl [Hr0 Hr1 Hr2]
  · isplitl [Hr1]; · iexact Hr1
    isplitl [Hr2]; · iexact Hr2
    iexact Hr0
  isplitl [Hcs]; · iexact Hcs
  isplitl [Hnew]; · iexact Hnew
  isplitl [Htok]; · iexact Htok
  isplitl [Htk]; · iexact Htk
  isplitl [Hrel]; · iexact Hrel
  isplitl [Hfree]; · iexact Hfree
  iexact Hreach

/-- The first trip's transfer needs no credit. -/
theorem st_first (c : Dev nD) (q : Fin 4) (t : ℕ) (ht : ¬ 1 ≤ t) : iprop(heard c q ∗ stW X c q t) ⊢ stC X c q t := by
  obtain rfl : t = 0 := by omega
  unfold stW stC heard taken
  iintro ⟨⟨#Hf, -⟩, H1, H2, H3, H4, H5, H6, H7, H8, H9⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact Hf

/-- The wait for trip `t`'s credit. -/
theorem st_credit (c : Dev nD) (q : Fin 4) (t : ℕ) (h1 : 1 ≤ t) (h2 : t ≤ 13) (O : CellTallies nD τ sig ℕ)
    (hO : (levAts L lv : sProp 𝕄) ⊢ MayWait (c : Thread nD τ) (.reg (creditS q)) (2 * (t - 1) + 3) O)
    {sem : Sem sig} (hs : sem = creditS q) :
    iprop(Inv X K ιs ∗ ow c O ∗ stW X c q t)
      ⊢ iprop(((ow c O ∗ stC X c q t) -∗ runs c (k ⟨⟩) Q)
          -∗ runs c (.op (.semWait sem (1#32 : BitVec 32).toInt) k) Q) := by
  obtain ⟨m, rfl⟩ : ∃ m, t = m + 1 := ⟨t - 1, by omega⟩
  unfold stW stC taken
  rw [show m + 1 - 1 = m from rfl, show m + 1 + 1 - 1 = m + 1 from rfl, show min m 13 = m from by omega, show min (m + 1) 13 = m + 1 from by omega,
    take_head (by omega : m < 13)]
  iintro ⟨#HI, HO, H1, H2, H3, H4, H5, ⟨H6, Hc, Hcs⟩, H7, H8, H9⟩ Hk
  iapply (step_credit (F := F) X K ιs c q m O hO hs) $$ [HO H6 Hc]
  · isplitr; · iexact HI
    isplitl [HO]; · iexact HO
    isplitl [H6]; · iexact H6
    iexact Hc
  iintro ⟨HO, H6, Hf⟩
  iapply Hk
  isplitl [HO]; · iexact HO
  isplitl [H1]; · iexact H1
  isplitl [H2]; · iexact H2
  isplitl [H3]; · iexact H3
  isplitl [H4]; · iexact H4
  isplitl [H5]; · iexact H5
  isplitl [H6 Hcs]
  · isplitl [H6]; · iexact H6
    iexact Hcs
  isplitl [H7]; · iexact H7
  isplitl [H8]; · iexact H8
  isplitl [H9]; · iexact H9
  iexact Hf

/-- Trip `t` starts transfer `t + 1`. -/
theorem st_start (c : Dev nD) (q : Fin 4) (t : ℕ) (ht : t < 14) (a b : Fin 4 → ℕ) (ha : a q = t + 2)
    {d : Dev nD} (hd : d = dst q c) {sS sR : DmaSem sig} (hs : sS = sendS q (sl (t + 1))) (hr : sR = recvS q (sl (t + 2)))
    {sM dM : Memref sig .tc .vmem S128x8192 .bf16} (hsM : sM = slotQ q (sl (t + 1))) (hdM : dM = slotQ q (sl (t + 2)))
    {w1 : sM.view.WordExact} {w2 : dM.view.WordExact} {hsc : dM.view.ref.isScScratch = false}
    {hty : DmaTarget.Typed .vmem (.dma sR) (.remote (Dev.tc d) dM (.dma sS) hsc)} :
    iprop(Inv X K ιs ∗ ow c (Owe c a b) ∗ stC X c q t)
      ⊢ iprop(((ow c (Owe c (Function.update a q (t + 3)) b) ∗ stS X c q t)
            -∗ runs c (k ⟨⟩) Q)
          -∗ wp frame (wpE (defs₀ (F := F)) 𝒱₀ (c : Thread nD τ) none) Set.univ
              (.op (.enqueueDma sM (.remote (Dev.tc d) dM (.dma sS) hsc) (.dma sR) w1 w2 hty) k) Q) := by
  unfold stC stS toks hold sends
  rw [if_pos (by omega : t + 1 ≤ 14), take_head (by omega : t + 1 < 15)]
  have hh : slotAt c q (sl (t + 1)) fullShare (land X c q (t + 1))
      ⊢ iprop(slotAt c q (sl (t + 1)) fullShare.left (land X c q (t + 1)) ∗ slotAt c q (sl (t + 1)) fullShare.right (land X c q (t + 1))) :=
    (owns_halves (c : Thread nD τ) (slotM q (sl (t + 1))) fullShare (land X c q (t + 1))).1
  have hcurs : (curs (sendCell c q (sl (t + 1))) ((t + 1) / 3) : sProp 𝕄)
      ⊢ iprop(curs (sendCell c q (sl (t + 1))) ((t + 1) / 3) ∗ reached ER (sendCell c q (sl (t + 1))) ((t + 1) / 3)) := by
    unfold curs
    iintro ⟨H, #Hr⟩
    isplitl [H]
    · isplitl [H]; · iexact H
      iexact Hr
    iexact Hr
  iintro ⟨#HI, HO, ⟨Hs0, Hs1⟩, H2, H3, H4, ⟨⟨Ht1, Ht2, Ht3⟩, H5⟩, H6, H7, H8, H9, Hf⟩ Hk
  ihave ⟨Hs0, #Hrs⟩ := hcurs $$ Hs0
  ihave ⟨Hl, Hr⟩ := hh $$ H4
  iapply (step_start (F := F) X K ιs c q (t + 1) (by omega) a b ha hd hs hr hsM hdM) $$ [HO Hr Hf Ht1 Ht2 Ht3]
  · isplitr; · iexact HI
    isplitl [HO]; · iexact HO
    isplitl [Hr]; · iexact Hr
    isplitl [Hf]; · iexact Hf
    isplitr; · iexact Hrs
    isplitl [Ht1]; · iexact Ht1
    isplitl [Ht2]; · iexact Ht2
    iexact Ht3
  iintro ⟨HO, Hc⟩
  iapply Hk
  isplitl [HO]; · iexact HO
  isplitl [Hs0 Hs1]
  · isplitl [Hs0]; · iexact Hs0
    iexact Hs1
  isplitl [H2]; · iexact H2
  isplitl [H3]; · iexact H3
  isplitl [Hl Hc]
  · isplitl [Hl]; · iexact Hl
    iexact Hc
  isplitl [H5]; · iexact H5
  isplitl [H6]; · iexact H6
  isplitl [H7]; · iexact H7
  isplitl [H8]; · iexact H8
  iexact H9

/-- The last trip starts none. -/
theorem st_last (c : Dev nD) (q : Fin 4) (t : ℕ) (ht : t = 14) (a b : Fin 4 → ℕ) (ha : a q = t + 2) :
    iprop(ow c (Owe c a b) ∗ stW X c q t) ⊢ iprop(ow c (Owe c (Function.update a q (t + 3)) b) ∗ stS X c q t) := by
  subst ht
  have e := Owe_land_done c a b q (by omega)
  rw [ha] at e
  rw [e]
  unfold stW stS toks hold taken
  rw [if_neg (by decide : ¬ 14 + 1 ≤ 14)]
  exact BI.Entails.refl _

/-- Trip `t` frees landing `t`'s place and tells the upstream device. -/
theorem st_signal (c : Dev nD) (q : Fin 4) (t : ℕ) (ht : t ≤ 12) (a b : Fin 4 → ℕ) (hb : b q = t)
    {d : Dev nD} (hd : d = src q c) {sem : Sem sig} (hs : sem = creditS q) :
    iprop(Inv X K ιs ∗ heard c q ∗ ow c (Owe c a b) ∗ stS X c q t)
      ⊢ iprop(((ow c (Owe c a (Function.update b q (t + 1))) ∗ st X c q (t + 1))
            -∗ runs c (k ⟨⟩) Q)
          -∗ wp frame (wpE (defs₀ (F := F)) 𝒱₀ (c : Thread nD τ) none) Set.univ
              (.op (.semSignal (Dev.tc d) sem (1#32 : BitVec 32).toInt) k) Q) := by
  unfold stS st rels heard
  rw [if_pos (by omega : t ≤ 13), if_pos (by omega : t + 1 ≤ 13), if_neg (by omega : ¬ 14 ≤ t), if_neg (by omega : ¬ 15 ≤ t), if_neg (by omega : ¬ 14 ≤ t + 1),
    if_neg (by omega : ¬ 15 ≤ t + 1), take_head (by omega : t < 13)]
  have eR : (readerAt EK (c, q, sl t) ((t + 2) / 3 + 1) : sProp 𝕄) = readerAt EK (c, q, sl (t + 1 + 2)) ((t + 1 + 4) / 3) := by
    rw [show t + 1 + 2 = t + 3 from rfl, sl3, show (t + 2) / 3 + 1 = (t + 1 + 4) / 3 from by omega]
  iintro ⟨#HI, ⟨-, #Hrc⟩, HO, H1, H2, H3, H4, H5, H6, ⟨⟨⟨Hr0, Hr1, Hr2⟩, #Hf1, #Hf2⟩, ⟨Ht, Hts⟩, He1, He2⟩, H8, #H9⟩ Hk
  iapply (step_signal (F := F) X K ιs c q t ht a b hb hd hs) $$ [HO H8 Hr0 Ht]
  · isplitr; · iexact HI
    isplitl [HO]; · iexact HO
    isplitl [H8]; · iexact H8
    isplitl [Hr0]; · iexact Hr0
    isplitr; · iexact Hf1
    isplitr; · iexact Hf2
    isplitr; · iexact H9
    isplitl [Ht]; · iexact Ht
    iexact Hrc
  rw [eR]
  iintro ⟨HO, Hr0, #Hf3⟩
  iapply Hk
  isplitl [HO]; · iexact HO
  isplitl [H1]; · iexact H1
  isplitl [H2]; · iexact H2
  isplitl [H3]; · iexact H3
  isplitl [H4]; · iexact H4
  isplitl [H5]; · iexact H5
  isplitl [H6]; · iexact H6
  isplitl [Hr0 Hr1 Hr2]
  · isplitl [Hr0 Hr1 Hr2]
    · isplitl [Hr1]; · iexact Hr1
      isplitl [Hr2]; · iexact Hr2
      iexact Hr0
    isplitr; · iexact Hf2
    iexact Hf3
  isplitl [Hts]; · iexact Hts
  isplitl [He1]; · iexact He1
  iexact He2

/-- The last two trips free nothing. -/
theorem st_quiet (c : Dev nD) (q : Fin 4) (t : ℕ) (h1 : ¬ t ≤ 12) (h2 : t ≤ 14) (a b : Fin 4 → ℕ) (hb : b q = t) :
    iprop(ow c (Owe c a b) ∗ stS X c q t) ⊢ iprop(ow c (Owe c a (Function.update b q (t + 1))) ∗ st X c q (t + 1)) := by
  have e := Owe_credit_done c a b q (by omega)
  rw [hb] at e
  rw [e]
  unfold stS st
  have hr : iprop(rels c q t ∗ slotFree (F := F) (c, q, sl t)) ⊢ rels c q (t + 1) := by
    unfold rels
    rcases (by omega : t = 13 ∨ t = 14) with rfl | rfl
    · rw [if_neg (by decide : ¬ 14 ≤ 13), if_neg (by decide : ¬ 15 ≤ 13), if_pos (by decide : 14 ≤ 13 + 1), if_neg (by decide : ¬ 15 ≤ 13 + 1), if_neg (by decide : ¬ 13 + 1 ≤ 13)]
      iintro ⟨⟨-, Ht, -, He⟩, Hf⟩
      isplitr; · iempintro
      isplitl [Ht]; · iexact Ht
      isplitl [Hf]; · iexact Hf
      iexact He
    · rw [if_pos (by decide : 14 ≤ 14), if_pos (by decide : 14 ≤ 14 + 1), if_pos (by decide : 15 ≤ 14 + 1), if_neg (by decide : ¬ 14 + 1 ≤ 13)]
      iintro ⟨⟨-, Ht, He, -⟩, Hf⟩
      isplitr; · iempintro
      isplitl [Ht]; · iexact Ht
      isplitl [He]; · iexact He
      iexact Hf
  iintro ⟨HO, H1, H2, H3, H4, H5, H6, H7, H8, -⟩
  ihave H7 := hr $$ [H7 H8]
  · isplitl [H7]; · iexact H7
    iexact H8
  isplitl [HO]; · iexact HO
  isplitl [H1]; · iexact H1
  isplitl [H2]; · iexact H2
  isplitl [H3]; · iexact H3
  isplitl [H4]; · iexact H4
  isplitl [H5]; · iexact H5
  isplitl [H6]; · iexact H6
  iexact H7

end Moves

end Cert.Proof.AG

end
-- ==== Proof.Bufs.lean ====
/- The buffers a device's body reads and writes besides its cells: the table, the rotating places, the weights, the result. -/
module

public import proofs.«01_k».proof.Proof.State

@[expose] public section

set_option maxRecDepth 10000

noncomputable section

namespace Cert.Proof.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## The memrefs and their contents -/

abbrev tabM : Memref sig .tc .smem S4x16 .i32 := Memref.whole cc0_stg0_0
abbrev xM : Memref sig .tc .vmem S512x8192 .bf16 := Memref.whole cc0_stg1_0
abbrev wM : Memref sig .tc .vmem S8192x256 .bf16 := Memref.whole cc0_stg2_0
abbrev outM : Memref sig .tc .vmem S8192x256 .f32 := Memref.whole cc0_stg3_0
abbrev wbM : Memref sig .tc .vmem S8192x256 .bf16 := Memref.whole cc0_scratch1

/-- A device's buffer, whole, holding `f`. -/
abbrev has (c : Dev nD) (b : Ref sig .tc) (f : b.ty.Contents (Elt F)) : sProp 𝕄 := ((c : Thread nD τ).loc b) ↦{fullShare} f

theorem outInb (q : Fin 4) (o : Dev nD) : ∀ a, outOff q o a + S128x256.size a ≤ S8192x256.size a := by
  revert q o; decide
/-- The rows of the result a block of origin `o` in stream `q` gives. -/
abbrev outRect (q : Fin 4) (o : Dev nD) : Rect S8192x256 := Rect.unit (s := S8192x256) (outOff q o) S128x256.size (outInb q o)

variable (X : Dev nD → Vec F S512x8192 .bf16) (W : Dev nD → Vec F S8192x256 .bf16)

/-- Those rows of the result on device `c`. -/
def chunk (c : Dev nD) (q : Fin 4) (o : Dev nD) : Vec F S128x256 .f32 := k0_pay11 (blk (X o) q) (k0_pay10 (W c))

/-- The result so far: in each stream, the rows of the first `d q` landings. -/
def outs (c : Dev nD) (d : Fin 4 → ℕ) : sProp 𝕄 :=
  iprop(∃ f : cc0_stg3_0.ty.Contents (Elt F), ⌜∀ q j, j < d q → (outM.access (outRect q (org q c j))).read (Elt F) f = chunk X W c q (org q c j)⌝
    ∗ has c cc0_stg3_0 f)

section Ops
variable {α : Type} {Q : α → sProp (MT nD τ sig ℕ (Elt F) ℕ UU ℕ)}

theorem rowMajor_tab (y : S4x16.Idx) : (S4x16.rowMajor y).val = 16 * (y 0).val + (y 1).val := by
  have h := Shape.rowMajor_pair_val (d := ![4, 16]) (y 0) (y 1)
  rw [Shape.pair_eta] at h
  refine h.trans ?_
  rw [Nat.mul_comm]
  rfl

/-- A word of the table. -/
theorem read_tab (off : Fin 2 → ℕ) (inb : ∀ a, off a + S1x1.size a ≤ S4x16.size a) (x : S1x1.Idx) :
    (tabM.access (Rect.unit (s := S4x16) off S1x1.size inb)).read (Elt F) (tbl (F := F)) x = tblWord off := by
  have h0 := inb 0
  have h1 := inb 1
  have e0 : S1x1.size 0 = 1 := rfl
  have e1 : S1x1.size 1 = 1 := rfl
  have f0 : S4x16.size 0 = 4 := rfl
  have f1 : S4x16.size 1 = 16 := rfl
  rw [e0, f0] at h0
  rw [e1, f1] at h1
  have x0 : (x 0).val < 1 := (x 0).isLt
  have x1 : (x 1).val < 1 := (x 1).isLt
  unfold tblWord
  rw [dif_pos (show 16 * off 0 + off 1 < 64 by omega)]
  show lit0 (S4x16.rowMajor ((Rect.unit (s := S4x16) off S1x1.size inb).emb x)) = _
  congr 1
  refine Fin.ext ?_
  rw [rowMajor_tab]
  have v0 : ((Rect.unit (s := S4x16) off S1x1.size inb).emb x 0).val = off 0 + 1 * (x 0).val := rfl
  have v1 : ((Rect.unit (s := S4x16) off S1x1.size inb).emb x 1).val = off 1 + 1 * (x 1).val := rfl
  rw [v0, v1]
  dsimp only
  omega

/-- Reading a rotating place. -/
theorem ld_slot (c : Dev nD) (q : Fin 4) (s : Fin 3) (sh : PosShare TreeShare) (Y : Vec F S1x1x128x8192 .bf16)
    {off : Fin 4 → ℕ} (h : off = ![q.val, s.val, 0, 0]) {inb} {hl}
    {k : Vec F S1x1x128x8192 .bf16 → Prog (TpuEff nD τ sig (Elt F) Λ₀ .tc) α} :
    slotAt c q s sh Y
      ⊢ iprop((slotAt c q s sh Y -∗ runs c (k Y) Q)
          -∗ wp frame (wpE (defs₀ (F := F)) 𝒱₀ (c : Thread nD τ) none) Set.univ
              (.op (.load commM (Rect.unit (s := S4x3x128x8192) off S1x1x128x8192.size inb).toLoadRect hl) k) Q) := by
  subst h
  unfold slotAt owns
  iintro ⟨%f, %hf, H⟩ Hk
  iapply (wp_load_rect 𝒱₀ (c : Thread nD τ) none Set.univ (m := commM) (r := slotRect q s) (Finset.Subset.refl _)) $$ H
  iintro H
  rw [show (commM.access (slotRect q s)).read (Elt F) f = Y from hf]
  iapply Hk
  iexists f
  isplitr; · ipureintro; exact hf
  iexact H

/-- Writing a rotating place, read first. -/
theorem st_slot (c : Dev nD) (q : Fin 4) (s : Fin 3) (Y : Vec F S1x1x128x8192 .bf16)
    {off : Fin 4 → ℕ} (h : off = ![q.val, s.val, 0, 0]) {inb} {inb'} {hl hx hm}
    {k : PUnit → Prog (TpuEff nD τ sig (Elt F) Λ₀ .tc) α} :
    slotFree (F := F) (c, q, s)
      ⊢ iprop((slotAt c q s fullShare Y -∗ runs c (k ⟨⟩) Q)
          -∗ wp frame (wpE (defs₀ (F := F)) 𝒱₀ (c : Thread nD τ) none) Set.univ
              (.op (.load commM (Rect.unit (s := S4x3x128x8192) off S1x1x128x8192.size inb).toLoadRect hl) fun _ =>
                .op (.store commM (Rect.unit (s := S4x3x128x8192) off S1x1x128x8192.size inb') Y Finset.univ hx hm) k) Q) := by
  subst h
  unfold slotFree Release.slot slotAt
  iintro ⟨%f, H⟩ Hk
  iapply (wp_load_rect 𝒱₀ (c : Thread nD τ) none Set.univ (m := commM) (r := slotRect q s) (Finset.Subset.refl _)) $$ H
  iintro H
  iapply (wp_store 𝒱₀ (c : Thread nD τ) none Set.univ (m := commM) (r := slotRect q s) (Mk := Finset.univ)
    (S := (slotM q s).view.set) (by rw [View.setOn_univ])) $$ H
  iintro H
  iapply Hk
  unfold owns
  iexists _
  isplitr; · ipureintro; exact View.read_write_univ (v := (slotM q s).view) f Y
  iexact H

/-- Reading a whole buffer of the weights' shape. -/
theorem ld_wb (c : Dev nD) (f : Vec F S8192x256 .bf16) {inb} {hl}
    {k : Vec F S8192x256 .bf16 → Prog (TpuEff nD τ sig (Elt F) Λ₀ .tc) α} :
    has c cc0_scratch1 f
      ⊢ iprop((has c cc0_scratch1 f -∗ runs c (k f) Q)
          -∗ wp frame (wpE (defs₀ (F := F)) 𝒱₀ (c : Thread nD τ) none) Set.univ
              (.op (.load wbM (Rect.unit (s := S8192x256) ![0, 0] S8192x256.size inb).toLoadRect hl) k) Q) := by
  iintro H Hk
  iapply (wp_load_rect 𝒱₀ (c : Thread nD τ) none Set.univ (m := wbM) (r := Rect.unit (s := S8192x256) ![0, 0] S8192x256.size inb) (Finset.subset_univ _)) $$ H
  iintro H
  have e : (wbM.access (Rect.unit (s := S8192x256) ![0, 0] S8192x256.size inb)).read (Elt F) f = f :=
    Memref.read_access_unit_zero (Elt F) cc0_scratch1 (by funext a; fin_cases a <;> rfl) inb f
  rw [e]
  iapply Hk; iexact H

/-- The rows of two blocks are the same or apart. -/
theorem out_disjoint (q q' : Fin 4) (o o' : Dev nD) (h : ¬ (q = q' ∧ o = o')) : Disjoint (outRect q o).set (outRect q' o').set := by
  refine Rect.unit_disjoint 0 ?_
  have h0 : outOff q o 0 = o.val * 512 + q.val * 128 := rfl
  have h0' : outOff q' o' 0 = o'.val * 512 + q'.val * 128 := rfl
  have e : S128x256.size 0 = 128 := rfl
  rw [h0, h0', e]
  have : ¬ (q.val = q'.val ∧ o.val = o'.val) := fun hh => h ⟨Fin.ext hh.1, Fin.ext hh.2⟩
  omega

theorem read_other (r r' : Rect S8192x256) (f : cc0_stg3_0.ty.Contents (Elt F)) (w : r'.shape.Idx → Elt F .f32) (h : Disjoint r.set r'.set) :
    (outM.access r).read (Elt F) ((outM.access r').write (Elt F) f w Finset.univ) = (outM.access r).read (Elt F) f :=
  View.read_slice_write_slice_of_disjoint (v := outM.view) r r' f w Finset.univ
    (by rw [View.setOn_univ]; exact View.disjoint_slice h)

/-- Writing the rows landing `j` gives, read first. -/
theorem st_out (c : Dev nD) (q : Fin 4) (j : ℕ) (d : Fin 4 → ℕ) (hd : d q = j) (v : Vec F S128x256 .f32) (hv : v = chunk X W c q (org q c j))
    {off : Fin 2 → ℕ} (h : off = outOff q (org q c j)) {inb} {inb'} {hl hx hm}
    {k : PUnit → Prog (TpuEff nD τ sig (Elt F) Λ₀ .tc) α} :
    outs X W c d
      ⊢ iprop((outs X W c (Function.update d q (j + 1)) -∗ runs c (k ⟨⟩) Q)
          -∗ wp frame (wpE (defs₀ (F := F)) 𝒱₀ (c : Thread nD τ) none) Set.univ
              (.op (.load outM (Rect.unit (s := S8192x256) off S128x256.size inb).toLoadRect hl) fun _ =>
                .op (.store outM (Rect.unit (s := S8192x256) off S128x256.size inb') v Finset.univ hx hm) k) Q) := by
  subst h hv hd
  unfold outs
  iintro ⟨%f, %hf, H⟩ Hk
  iapply (wp_load_rect 𝒱₀ (c : Thread nD τ) none Set.univ (m := outM) (r := outRect q (org q c (d q))) (Finset.subset_univ _)) $$ H
  iintro H
  iapply (wp_store 𝒱₀ (c : Thread nD τ) none Set.univ (m := outM) (r := outRect q (org q c (d q))) (Mk := Finset.univ) (Finset.subset_univ _)) $$ H
  iintro H
  iapply Hk
  iexists _
  isplitr
  · ipureintro
    intro q' j' hj'
    by_cases hq : q = q' ∧ org q c (d q) = org q' c j'
    · obtain ⟨rfl, ho⟩ := hq
      rw [← ho]
      exact View.read_write_univ (v := outM.access (outRect q (org q c (d q)))) f _
    · have hlt : j' < d q' := by
        by_cases e : q' = q
        · subst e
          rw [Function.update_self] at hj'
          have : j' ≠ d q' := fun e' => hq ⟨rfl, by rw [e']⟩
          omega
        · rwa [Function.update_of_ne e] at hj'
      rw [← hf q' j' hlt]
      exact read_other _ _ f _ (out_disjoint q' q _ _ (fun hh => hq ⟨hh.1.symm, hh.2.symm⟩))
  iexact H

/-- The place a stream holds, for reading: the share is whatever transfer `t` has left of it. -/
theorem hold_open (c : Dev nD) (q : Fin 4) (t : ℕ) :
    hold X c q t ⊢ iprop(∃ sh : PosShare TreeShare, slotAt c q (sl t) sh (land X c q t) ∗ (slotAt c q (sl t) sh (land X c q t) -∗ hold X c q t)) := by
  unfold hold
  split
  · iintro ⟨H, Hc⟩
    iexists fullShare.left
    isplitl [H]; · iexact H
    iintro H
    isplitl [H]; · iexact H
    iexact Hc
  · iintro H
    iexists fullShare
    isplitl [H]; · iexact H
    iintro H; iexact H

end Ops

end Cert.Proof.AG

end
-- ==== Proof.Trip.lean ====
/- One trip of the loop, part by part, as the program prints it: the waits, the next transfers, the signals, the products. -/
module

public import proofs.«01_k».proof.Proof.Bufs

@[expose] public section

set_option maxRecDepth 10000

noncomputable section

namespace Cert.Proof.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → Vec F S512x8192 .bf16) (W : Dev nD → Vec F S8192x256 .bf16)
variable (K : GSem nD τ sig → ℕ) (ιs : Key → ℕ)

/-- One part of a program after another. -/
theorem seq {c : Dev nD} {α β : Type} {p : Prog (TpuEff nD τ sig (Elt F) Λ₀ .tc) α} {kk : α → Prog (TpuEff nD τ sig (Elt F) Λ₀ .tc) β}
    {P : sProp (MT nD τ sig ℕ (Elt F) ℕ UU ℕ)} {Φ : α → sProp (MT nD τ sig ℕ (Elt F) ℕ UU ℕ)} {Q : β → sProp (MT nD τ sig ℕ (Elt F) ℕ UU ℕ)}
    (h : P ⊢ runs c p Φ) : P ⊢ iprop((∀ r, Φ r -∗ runs c (kk r) Q) -∗ runs c (p >>= kk) Q) := by
  unfold runs
  rw [wp_bind]
  exact h.trans (wp_wand _ _ _)

/-- A place of the rotating buffer, as the program addresses it. -/
theorem slotQ_at {off : Fin 4 → ℕ} {inb} {q : Fin 4} {s : Fin 3} (h : off = ![q.val, s.val, 0, 0]) :
    (commM.slice (Rect.unit (s := S4x3x128x8192) off S1x1x128x8192.size inb) (fun _ => rfl)).squeeze S128x8192 squeezes_S1x1x128x8192_S128x8192 = slotQ q s := by
  subst h; rfl

theorem dmaCredit_at {off : Fin 4 → ℕ} {inb} {q : Fin 4} {s : Fin 3} (h : off = ![q.val, s.val, 0, 0]) :
    ((commM.slice (Rect.unit (s := S4x3x128x8192) off S1x1x128x8192.size inb) (fun _ => rfl)).squeeze S128x8192 squeezes_S1x1x128x8192_S128x8192).view.dmaCredit = N := by
  subst h; rfl

theorem up_le {a : Fin 4 → ℕ} {q : Fin 4} {n : ℕ} (h : ∀ p, n + 2 ≤ a p) : ∀ p, n + 2 ≤ Function.update a q (n + 3) p := fun p => by
  by_cases e : p = q
  · rw [e, Function.update_self]; omega
  · rw [Function.update_of_ne e]; exact h p

/-- The guarded wait for a trip's credit: the first trip passes it by. -/
theorem st_credit_if {α : Type} {Q : α → sProp (MT nD τ sig ℕ (Elt F) ℕ UU ℕ)} {k : Prog (TpuEff nD τ sig (Elt F) Λ₀ .tc) α}
    (c : Dev nD) (q : Fin 4) (t : ℕ) (h2 : t ≤ 13) (a b : Fin 4 → ℕ) (ha : ∀ p, t + 2 ≤ a p) (hb : ∀ p, t ≤ b p)
    {sem : Sem sig} (hs : sem = creditS q) {cnd : Prop} [Decidable cnd] (hc : cnd ↔ 1 ≤ t) :
    iprop(Inv X K ιs ∗ heard c q ∗ ow c (Owe c a b) ∗ stW X c q t)
      ⊢ iprop(((ow c (Owe c a b) ∗ stC X c q t) -∗ runs c k Q)
          -∗ runs c (if _ : cnd then .op (.semWait sem (1#32 : BitVec 32).toInt) fun _ => k else k) Q) := by
  by_cases h1 : 1 ≤ t
  · rw [dif_pos (hc.2 h1)]
    iintro ⟨#HI, -, HO, Hs⟩ Hk
    iapply (st_credit (F := F) X K ιs c q t h1 h2 (Owe c a b)
      (mayWait c _ _ a b (by omega) (fun p => by have := ha p; omega) (fun p => by have := hb p; omega)) hs (k := fun _ => k)) $$ [HO Hs]
    · isplitr; · iexact HI
      isplitl [HO]; · iexact HO
      iexact Hs
    iexact Hk
  · rw [dif_neg (fun h => h1 (hc.1 h))]
    iintro ⟨-, Hh, HO, Hs⟩ Hk
    iapply Hk
    isplitl [HO]; · iexact HO
    iapply (st_first (F := F) X c q t h1)
    isplitl [Hh]; · iexact Hh
    iexact Hs

/-- The guarded pair of signals that two streams' places are free: the last two trips free none. -/
theorem st_signal_if {α : Type} {Q : α → sProp (MT nD τ sig ℕ (Elt F) ℕ UU ℕ)} {k : Prog (TpuEff nD τ sig (Elt F) Λ₀ .tc) α}
    (c : Dev nD) (q q' : Fin 4) (hq : q' ≠ q) (t : ℕ) (h2 : t ≤ 14) (a b : Fin 4 → ℕ) (hb : b q = t) (hb' : b q' = t)
    {cnd : Prop} [Decidable cnd] (hc : cnd ↔ t ≤ 12) {d d' : cnd → Dev nD} (hd : ∀ h, d h = src q c) (hd' : ∀ h, d' h = src q' c)
    {sem sem' : Sem sig} (hs : sem = creditS q) (hs' : sem' = creditS q') :
    iprop(Inv X K ιs ∗ heard c q ∗ heard c q' ∗ ow c (Owe c a b) ∗ stS X c q t ∗ stS X c q' t)
      ⊢ iprop(((ow c (Owe c a (Function.update (Function.update b q (t + 1)) q' (t + 1))) ∗ st X c q (t + 1) ∗ st X c q' (t + 1)) -∗ runs c k Q)
          -∗ runs c (if h : cnd then .op (.semSignal (Dev.tc (d h)) sem (1#32 : BitVec 32).toInt) fun _ =>
              .op (.semSignal (Dev.tc (d' h)) sem' (1#32 : BitVec 32).toInt) fun _ => k else k) Q) := by
  have hb'' : Function.update b q (t + 1) q' = t := by rw [Function.update_of_ne hq, hb']
  by_cases h1 : t ≤ 12
  · rw [dif_pos (hc.2 h1)]
    iintro ⟨#HI, #Hh, #Hh', HO, Hs, Hs'⟩ Hk
    iapply (st_signal (F := F) X K ιs c q t h1 a b hb (hd _) hs) $$ [HO Hs]
    · isplitr; · iexact HI
      isplitr; · iexact Hh
      isplitl [HO]; · iexact HO
      iexact Hs
    iintro ⟨HO, Hs⟩
    iapply (st_signal (F := F) X K ιs c q' t h1 a (Function.update b q (t + 1)) hb'' (hd' _) hs' (k := fun _ => k)) $$ [HO Hs']
    · isplitr; · iexact HI
      isplitr; · iexact Hh'
      isplitl [HO]; · iexact HO
      iexact Hs'
    iintro ⟨HO, Hs'⟩
    iapply Hk
    isplitl [HO]; · iexact HO
    isplitl [Hs] <;> iassumption
  · rw [dif_neg (fun h => h1 (hc.1 h))]
    iintro ⟨-, -, -, HO, Hs, Hs'⟩ Hk
    ihave ⟨HO, Hs⟩ := (st_quiet (F := F) X c q t h1 h2 a b hb) $$ [HO Hs]
    · isplitl [HO] <;> iassumption
    ihave ⟨HO, Hs'⟩ := (st_quiet (F := F) X c q' t h1 h2 a (Function.update b q (t + 1)) hb'') $$ [HO Hs']
    · isplitl [HO] <;> iassumption
    iapply Hk
    isplitl [HO]; · iexact HO
    isplitl [Hs] <;> iassumption

section Parts
variable (c : Dev nD) (t : Fin k0_t1_loop.trips) (a b : Fin 4 → ℕ)

theorem part3 (v4 : Elt F .i32) (ha : ∀ q, hop t + 2 ≤ a q) (hb : ∀ q, hop t ≤ b q) :
    iprop(Inv X K ιs ∗ ow c (Owe c a b) ∗ st X c 0 (hop t))
      ⊢ runs c (k0_part3 tabM (Memref.isWhole_whole _) xM (Memref.isWhole_whole _) wM (Memref.isWhole_whole _) outM (Memref.isWhole_whole _)
          commM (Memref.isWhole_whole _) wbM (Memref.isWhole_whole _) cc0_scratch2 cc0_scratch3 cc0_scratch4 v4 0#32 1#32 t)
        (fun r => iprop(⌜r = Scf.iv 0#32 1#32 t.val⌝ ∗ ow c (Owe c a b) ∗ stW X c 0 (hop t))) := by
  have ht := hop_lt t
  simp only [k0_part3_eq_skeleton]; unfold k0_part3_skel runs
  simp only [Prog.lift, Prog.bind_op, Prog.bind_ret, Prog.pure_eq_ret, Prog.bind_assoc]
  iintro ⟨#HI, HO, Hs⟩
  iapply (st_waits (F := F) X K ιs c 0 (hop t) (by omega) (Owe c a b)
      (mayWait c _ _ a b (by omega) (fun q => by have := ha q; omega) (fun q => by have := hb q; omega))
      (mayWait c _ _ a b (by omega) (fun q => by have := ha q; omega) (fun q => by have := hb q; omega))
      (recv_at (off5_eq t)) (send_at (off8_eq t)) (dmaCredit_at (q := 0) (s := sl (hop t + 1)) (off6_eq t)) (dmaCredit_at (q := 0) (s := sl (hop t)) (off7_eq t))) $$ [HO Hs]
  · isplitr; · iexact HI
    isplitl [HO]; · iexact HO
    iexact Hs
  iintro ⟨HO, Hs⟩
  unfold runs; rw [wp_ret]; imodintro
  isplitr; · ipureintro; rfl
  isplitl [HO]; · iexact HO
  iexact Hs

theorem part7 (v4 : Elt F .i32) (arg9 w : BitVec 32) (ha : ∀ q, hop t + 2 ≤ a q) (hb : ∀ q, hop t ≤ b q) :
    iprop(Inv X K ιs ∗ ow c (Owe c a b) ∗ st X c 1 (hop t))
      ⊢ runs c (k0_part7 tabM (Memref.isWhole_whole _) xM (Memref.isWhole_whole _) wM (Memref.isWhole_whole _) outM (Memref.isWhole_whole _)
          commM (Memref.isWhole_whole _) wbM (Memref.isWhole_whole _) cc0_scratch2 cc0_scratch3 cc0_scratch4 v4 t arg9 w)
        (fun _ => iprop(ow c (Owe c a b) ∗ stW X c 1 (hop t))) := by
  have ht := hop_lt t
  simp only [k0_part7_eq_skeleton]; unfold k0_part7_skel runs
  simp only [Prog.lift, Prog.bind_op, Prog.bind_ret, Prog.pure_eq_ret, Prog.bind_assoc]
  iintro ⟨#HI, HO, Hs⟩
  iapply (st_waits (F := F) X K ιs c 1 (hop t) (by omega) (Owe c a b)
      (mayWait c _ _ a b (by omega) (fun q => by have := ha q; omega) (fun q => by have := hb q; omega))
      (mayWait c _ _ a b (by omega) (fun q => by have := ha q; omega) (fun q => by have := hb q; omega))
      (recv_at (off27_eq t)) (send_at (off30_eq t)) (dmaCredit_at (q := 1) (s := sl (hop t + 1)) (off28_eq t)) (dmaCredit_at (q := 1) (s := sl (hop t)) (off29_eq t))) $$ [HO Hs]
  · isplitr; · iexact HI
    isplitl [HO]; · iexact HO
    iexact Hs
  iintro ⟨HO, Hs⟩
  unfold runs; rw [wp_ret]; imodintro
  isplitl [HO]; · iexact HO
  iexact Hs

theorem part1 (hw : k0_chk1 (wd (nxt c))) (h1 : k0_cond1 t = 1#1) (ha : ∀ q, hop t + 2 ≤ a q) (hb : ∀ q, hop t ≤ b q) (ha0 : a 0 = hop t + 2) :
    iprop(Inv X K ιs ∗ heard c 0 ∗ heard c 2 ∗ ow c (Owe c a b) ∗ stW X c 0 (hop t) ∗ stW X c 2 (hop t))
      ⊢ runs c (k0_part1 tabM (Memref.isWhole_whole _) xM (Memref.isWhole_whole _) wM (Memref.isWhole_whole _) outM (Memref.isWhole_whole _)
          commM (Memref.isWhole_whole _) wbM (Memref.isWhole_whole _) cc0_scratch2 cc0_scratch3 cc0_scratch4 (wd (nxt c)) hw t (Scf.iv 0#32 1#32 t.val) h1)
        (fun _ => iprop(ow c (Owe c (Function.update a 0 (hop t + 3)) b) ∗ stS X c 0 (hop t) ∗ stC X c 2 (hop t))) := by
  have ht := (cond1_iff t).1 h1
  simp only [k0_part1_eq_skeleton]; unfold k0_part1_skel runs
  simp only [semWaitWord, Prog.lift, Prog.bind_op, Prog.bind_ret, Prog.pure_eq_ret, Prog.bind_assoc]
  iintro ⟨#HI, #Hh0, #Hh2, HO, Hs0, Hs2⟩
  iapply (st_credit_if (F := F) X K ιs c 0 (hop t) (by omega) a b ha hb (credit_at rfl) (wait_iff t)) $$ [HO Hs0]
  · isplitr; · iexact HI
    isplitr; · iexact Hh0
    isplitl [HO]; · iexact HO
    iexact Hs0
  iintro ⟨HO, Hs0⟩
  iapply (st_start (F := F) X K ιs c 0 (hop t) ht a b ha0 (Fin.ext (dev_eq (nxt c)).2.2.2.2.2.2.1)
    (send_at (off13_eq t)) (recv_at (off14_eq t)) (slotQ_at (off16_eq t)) (slotQ_at (off15_eq t))) $$ [HO Hs0]
  · isplitr; · iexact HI
    isplitl [HO]; · iexact HO
    iexact Hs0
  iintro ⟨HO, Hs0⟩
  iapply (st_credit_if (F := F) X K ιs c 2 (hop t) (by omega) (Function.update a 0 (hop t + 3)) b (up_le ha) hb (credit_at rfl) (wait_iff t)) $$ [HO Hs2]
  · isplitr; · iexact HI
    isplitr; · iexact Hh2
    isplitl [HO]; · iexact HO
    iexact Hs2
  iintro ⟨HO, Hs2⟩
  unfold runs; rw [wp_ret]; imodintro
  isplitl [HO]; · iexact HO
  isplitl [Hs0]; · iexact Hs0
  iexact Hs2

theorem part2 (hw : k0_chk1 (wd (nxt c))) (h1 : k0_cond5 t = 1#1) (ha : ∀ q, hop t + 2 ≤ a q) (hb : ∀ q, hop t ≤ b q) (ha0 : a 1 = hop t + 2) :
    iprop(Inv X K ιs ∗ heard c 1 ∗ heard c 3 ∗ ow c (Owe c a b) ∗ stW X c 1 (hop t) ∗ stW X c 3 (hop t))
      ⊢ runs c (k0_part2 tabM (Memref.isWhole_whole _) xM (Memref.isWhole_whole _) wM (Memref.isWhole_whole _) outM (Memref.isWhole_whole _)
          commM (Memref.isWhole_whole _) wbM (Memref.isWhole_whole _) cc0_scratch2 cc0_scratch3 cc0_scratch4 (wd (nxt c)) hw t (Scf.iv 0#32 1#32 t.val) h1)
        (fun _ => iprop(ow c (Owe c (Function.update a 1 (hop t + 3)) b) ∗ stS X c 1 (hop t) ∗ stC X c 3 (hop t))) := by
  have ht := (cond5_iff t).1 h1
  simp only [k0_part2_eq_skeleton]; unfold k0_part2_skel runs
  simp only [semWaitWord, Prog.lift, Prog.bind_op, Prog.bind_ret, Prog.pure_eq_ret, Prog.bind_assoc]
  iintro ⟨#HI, #Hh0, #Hh2, HO, Hs0, Hs2⟩
  iapply (st_credit_if (F := F) X K ιs c 1 (hop t) (by omega) a b ha hb (credit_at rfl) (wait_iff t)) $$ [HO Hs0]
  · isplitr; · iexact HI
    isplitr; · iexact Hh0
    isplitl [HO]; · iexact HO
    iexact Hs0
  iintro ⟨HO, Hs0⟩
  iapply (st_start (F := F) X K ιs c 1 (hop t) ht a b ha0 (Fin.ext (dev_eq (nxt c)).2.2.2.2.2.2.2.2.2.2.1)
    (send_at (off35_eq t)) (recv_at (off36_eq t)) (slotQ_at (off38_eq t)) (slotQ_at (off37_eq t))) $$ [HO Hs0]
  · isplitr; · iexact HI
    isplitl [HO]; · iexact HO
    iexact Hs0
  iintro ⟨HO, Hs0⟩
  iapply (st_credit_if (F := F) X K ιs c 3 (hop t) (by omega) (Function.update a 1 (hop t + 3)) b (up_le ha) hb (credit_at rfl) (wait_iff t)) $$ [HO Hs2]
  · isplitr; · iexact HI
    isplitr; · iexact Hh2
    isplitl [HO]; · iexact HO
    iexact Hs2
  iintro ⟨HO, Hs2⟩
  unfold runs; rw [wp_ret]; imodintro
  isplitl [HO]; · iexact HO
  isplitl [Hs0]; · iexact Hs0
  iexact Hs2

/-- What trip `t`'s second part leaves: streams 0 and 2 are at the next trip. -/
theorem part4 (hw : k0_chk1 (wd (nxt c))) (hw' : k0_chk2 (wd (prv c))) (ha : ∀ q, a q = hop t + 2) (hb : ∀ q, b q = hop t) :
    iprop(Inv X K ιs ∗ heard c 0 ∗ heard c 2 ∗ ow c (Owe c a b) ∗ stW X c 0 (hop t) ∗ st X c 2 (hop t))
      ⊢ runs c (k0_part4 tabM (Memref.isWhole_whole _) xM (Memref.isWhole_whole _) wM (Memref.isWhole_whole _) outM (Memref.isWhole_whole _)
          commM (Memref.isWhole_whole _) wbM (Memref.isWhole_whole _) cc0_scratch2 cc0_scratch3 cc0_scratch4 (wd (nxt c)) hw (wd (prv c)) hw' t (Scf.iv 0#32 1#32 t.val))
        (fun _ => iprop(ow c (Owe c (Function.update (Function.update a 0 (hop t + 3)) 2 (hop t + 3)) (Function.update (Function.update b 0 (hop t + 1)) 2 (hop t + 1)))
          ∗ st X c 0 (hop t + 1) ∗ st X c 2 (hop t + 1))) := by
  have ht := hop_lt t
  have ha' : ∀ q, hop t + 2 ≤ a q := fun q => (ha q).ge
  have hb' : ∀ q, hop t ≤ b q := fun q => (hb q).ge
  have ha2 : Function.update a 0 (hop t + 3) 2 = hop t + 2 := by rw [Function.update_of_ne (by decide), ha]
  simp only [k0_part4_eq_skeleton]; unfold k0_part4_skel runs
  simp only [semSignalWord, Prog.lift, Prog.bind_op, Prog.bind_ret, Prog.pure_eq_ret, Prog.bind_assoc]
  iintro ⟨#HI, #Hh0, #Hh2, HO, Hs0, Hs2⟩
  iapply (st_waits (F := F) X K ιs c 2 (hop t) (by omega) (Owe c a b)
      (mayWait c _ _ a b (by omega) (fun q => by have := ha q; omega) (fun q => by have := hb q; omega))
      (mayWait c _ _ a b (by omega) (fun q => by have := ha q; omega) (fun q => by have := hb q; omega))
      (recv_at (off9_eq t)) (send_at (off12_eq t)) (dmaCredit_at (q := 2) (s := sl (hop t + 1)) (off10_eq t)) (dmaCredit_at (q := 2) (s := sl (hop t)) (off11_eq t))) $$ [HO Hs2]
  · isplitr; · iexact HI
    isplitl [HO]; · iexact HO
    iexact Hs2
  iintro ⟨HO, Hs2⟩
  by_cases h1 : hop t < 14
  · rw [dif_pos ((cond1_iff t).2 h1)]
    iapply (seq (part1 (F := F) X K ιs c t a b hw ((cond1_iff t).2 h1) ha' hb' (ha 0))) $$ [HO Hs0 Hs2]
    · isplitr; · iexact HI
      isplitr; · iexact Hh0
      isplitr; · iexact Hh2
      isplitl [HO]; · iexact HO
      isplitl [Hs0] <;> iassumption
    iintro %r ⟨HO, Hs0, Hs2⟩
    iapply (st_start (F := F) X K ιs c 2 (hop t) h1 (Function.update a 0 (hop t + 3)) b ha2 (Fin.ext (dev_eq (prv c)).2.2.2.2.2.2.2.1)
      (send_at (off17_eq t)) (recv_at (off18_eq t)) (slotQ_at (off20_eq t)) (slotQ_at (off19_eq t))) $$ [HO Hs2]
    · isplitr; · iexact HI
      isplitl [HO]; · iexact HO
      iexact Hs2
    iintro ⟨HO, Hs2⟩
    iapply (st_signal_if (F := F) X K ιs c 0 2 (by decide) (hop t) (by omega) _ b (hb 0) (hb 2) (cond4_iff t)
      (fun _ => Fin.ext (dev_eq (prv c)).2.2.2.2.2.2.2.2.1) (fun _ => Fin.ext (dev_eq (nxt c)).2.2.2.2.2.2.2.2.2.1) (credit_at rfl) (credit_at rfl)) $$ [HO Hs0 Hs2]
    · isplitr; · iexact HI
      isplitr; · iexact Hh0
      isplitr; · iexact Hh2
      isplitl [HO]; · iexact HO
      isplitl [Hs0] <;> iassumption
    iintro H
    unfold runs; rw [wp_ret]; imodintro
    iexact H
  · rw [dif_neg (fun h => h1 ((cond1_iff t).1 h))]
    ihave ⟨HO, Hs0⟩ := (st_last (F := F) X c 0 (hop t) (by omega) a b (ha 0)) $$ [HO Hs0]
    · isplitl [HO] <;> iassumption
    ihave ⟨HO, Hs2⟩ := (st_last (F := F) X c 2 (hop t) (by omega) (Function.update a 0 (hop t + 3)) b ha2) $$ [HO Hs2]
    · isplitl [HO] <;> iassumption
    iapply (st_signal_if (F := F) X K ιs c 0 2 (by decide) (hop t) (by omega) _ b (hb 0) (hb 2) (cond4_iff t)
      (fun _ => Fin.ext (dev_eq (prv c)).2.2.2.2.2.2.2.2.1) (fun _ => Fin.ext (dev_eq (nxt c)).2.2.2.2.2.2.2.2.2.1) (credit_at rfl) (credit_at rfl)) $$ [HO Hs0 Hs2]
    · isplitr; · iexact HI
      isplitr; · iexact Hh0
      isplitr; · iexact Hh2
      isplitl [HO]; · iexact HO
      isplitl [Hs0] <;> iassumption
    iintro H
    unfold runs; rw [wp_ret]; imodintro
    iexact H
/-- What trip `t`'s part eight leaves: streams 1 and 3 are at the next trip. -/
theorem part8 (hw : k0_chk1 (wd (nxt c))) (hw' : k0_chk2 (wd (prv c))) (ha' : ∀ q, hop t + 2 ≤ a q) (hb' : ∀ q, hop t ≤ b q)
    (ha1 : a 1 = hop t + 2) (ha3 : a 3 = hop t + 2) (hb1 : b 1 = hop t) (hb3 : b 3 = hop t) :
    iprop(Inv X K ιs ∗ heard c 1 ∗ heard c 3 ∗ ow c (Owe c a b) ∗ stW X c 1 (hop t) ∗ st X c 3 (hop t))
      ⊢ runs c (k0_part8 tabM (Memref.isWhole_whole _) xM (Memref.isWhole_whole _) wM (Memref.isWhole_whole _) outM (Memref.isWhole_whole _)
          commM (Memref.isWhole_whole _) wbM (Memref.isWhole_whole _) cc0_scratch2 cc0_scratch3 cc0_scratch4 (wd (nxt c)) hw (wd (prv c)) hw' t (Scf.iv 0#32 1#32 t.val))
        (fun _ => iprop(ow c (Owe c (Function.update (Function.update a 1 (hop t + 3)) 3 (hop t + 3)) (Function.update (Function.update b 1 (hop t + 1)) 3 (hop t + 1)))
          ∗ st X c 1 (hop t + 1) ∗ st X c 3 (hop t + 1))) := by
  have ht := hop_lt t
  have ha2 : Function.update a 1 (hop t + 3) 3 = hop t + 2 := by rw [Function.update_of_ne (by decide), ha3]
  simp only [k0_part8_eq_skeleton]; unfold k0_part8_skel runs
  simp only [semSignalWord, Prog.lift, Prog.bind_op, Prog.bind_ret, Prog.pure_eq_ret, Prog.bind_assoc]
  iintro ⟨#HI, #Hh0, #Hh2, HO, Hs0, Hs2⟩
  iapply (st_waits (F := F) X K ιs c 3 (hop t) (by omega) (Owe c a b)
      (mayWait c _ _ a b (by omega) (fun q => by have := ha' q; omega) (fun q => by have := hb' q; omega))
      (mayWait c _ _ a b (by omega) (fun q => by have := ha' q; omega) (fun q => by have := hb' q; omega))
      (recv_at (off31_eq t)) (send_at (off34_eq t)) (dmaCredit_at (q := 3) (s := sl (hop t + 1)) (off32_eq t)) (dmaCredit_at (q := 3) (s := sl (hop t)) (off33_eq t))) $$ [HO Hs2]
  · isplitr; · iexact HI
    isplitl [HO]; · iexact HO
    iexact Hs2
  iintro ⟨HO, Hs2⟩
  by_cases h1 : hop t < 14
  · rw [dif_pos ((cond5_iff t).2 h1)]
    iapply (seq (part2 (F := F) X K ιs c t a b hw ((cond5_iff t).2 h1) ha' hb' ha1)) $$ [HO Hs0 Hs2]
    · isplitr; · iexact HI
      isplitr; · iexact Hh0
      isplitr; · iexact Hh2
      isplitl [HO]; · iexact HO
      isplitl [Hs0] <;> iassumption
    iintro %r ⟨HO, Hs0, Hs2⟩
    iapply (st_start (F := F) X K ιs c 3 (hop t) h1 (Function.update a 1 (hop t + 3)) b ha2 (Fin.ext (dev_eq (prv c)).2.2.2.2.2.2.2.2.2.2.2.1)
      (send_at (off39_eq t)) (recv_at (off40_eq t)) (slotQ_at (off42_eq t)) (slotQ_at (off41_eq t))) $$ [HO Hs2]
    · isplitr; · iexact HI
      isplitl [HO]; · iexact HO
      iexact Hs2
    iintro ⟨HO, Hs2⟩
    iapply (st_signal_if (F := F) X K ιs c 1 3 (by decide) (hop t) (by omega) _ b hb1 hb3 (cond8_iff t)
      (fun _ => Fin.ext (dev_eq (prv c)).2.2.2.2.2.2.2.2.2.2.2.2.1) (fun _ => Fin.ext (dev_eq (nxt c)).2.2.2.2.2.2.2.2.2.2.2.2.2) (credit_at rfl) (credit_at rfl)) $$ [HO Hs0 Hs2]
    · isplitr; · iexact HI
      isplitr; · iexact Hh0
      isplitr; · iexact Hh2
      isplitl [HO]; · iexact HO
      isplitl [Hs0] <;> iassumption
    iintro H
    unfold runs; rw [wp_ret]; imodintro
    iexact H
  · rw [dif_neg (fun h => h1 ((cond5_iff t).1 h))]
    ihave ⟨HO, Hs0⟩ := (st_last (F := F) X c 1 (hop t) (by omega) a b ha1) $$ [HO Hs0]
    · isplitl [HO] <;> iassumption
    ihave ⟨HO, Hs2⟩ := (st_last (F := F) X c 3 (hop t) (by omega) (Function.update a 1 (hop t + 3)) b ha2) $$ [HO Hs2]
    · isplitl [HO] <;> iassumption
    iapply (st_signal_if (F := F) X K ιs c 1 3 (by decide) (hop t) (by omega) _ b hb1 hb3 (cond8_iff t)
      (fun _ => Fin.ext (dev_eq (prv c)).2.2.2.2.2.2.2.2.2.2.2.2.1) (fun _ => Fin.ext (dev_eq (nxt c)).2.2.2.2.2.2.2.2.2.2.2.2.2) (credit_at rfl) (credit_at rfl)) $$ [HO Hs0 Hs2]
    · isplitr; · iexact HI
      isplitr; · iexact Hh0
      isplitr; · iexact Hh2
      isplitl [HO]; · iexact HO
      isplitl [Hs0] <;> iassumption
    iintro H
    unfold runs; rw [wp_ret]; imodintro
    iexact H

end Parts

end Cert.Proof.AG

end
-- ==== Proof.Prods.lean ====
/- The products of a trip: each stream's new rows of `x` times the weights, written where their origin says; and the whole trip. -/
module

public import proofs.«01_k».proof.Proof.Trip

@[expose] public section

set_option maxRecDepth 10000

noncomputable section

namespace Cert.Proof.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → Vec F S512x8192 .bf16) (W : Dev nD → Vec F S8192x256 .bf16)
variable (K : GSem nD τ sig → ℕ) (ιs : Key → ℕ)

/-- The table, whole, in its staging buffer. -/
def tabAt (c : Dev nD) : sProp 𝕄 := has c cc0_stg0_0 (tbl (F := F))
/-- The weights as the kernel keeps them. -/
def wbAt (c : Dev nD) : sProp 𝕄 := has c cc0_scratch1 (k0_pay10 (W c))

section Ops
variable {α : Type} {Q : α → sProp (MT nD τ sig ℕ (Elt F) ℕ UU ℕ)}

/-- Reading a word of the table. -/
theorem ld_tab (c : Dev nD) {off : Fin 2 → ℕ} {inb} {hl} {v : BitVec 32} (hv : tblWord off = v)
    {k : Vec F S1x1 .i32 → Prog (TpuEff nD τ sig (Elt F) Λ₀ .tc) α} :
    tabAt (F := F) c ⊢ iprop((tabAt (F := F) c -∗ runs c (k (fun _ => v)) Q)
      -∗ runs c (.op (.load tabM (Rect.unit (s := S4x16) off S1x1.size inb).toLoadRect hl) k) Q) := by
  unfold tabAt
  iintro H Hk
  iapply (wp_load_rect 𝒱₀ (c : Thread nD τ) none Set.univ (m := tabM) (r := Rect.unit (s := S4x16) off S1x1.size inb) (Finset.subset_univ _)) $$ H
  iintro H
  have e : (tabM.access (Rect.unit (s := S4x16) off S1x1.size inb)).read (Elt F) (tbl (F := F)) = fun _ => v := by
    funext x; rw [← hv]; exact read_tab off inb x
  rw [e]
  iapply Hk; iexact H

/-- A side condition that holds. -/
theorem assume_ok (c : Dev nD) {P : Prop} {d : Decidable P} {k : PLift P → Prog (TpuEff nD τ sig (Elt F) Λ₀ .tc) α} (h : P) :
    runs c (k ⟨h⟩) Q ⊢ runs c (.op (.assume P d) k) Q := by
  unfold runs
  rw [wp_assume_of _ _ _ _ h]

/-- The rows of `x` a stream holds, for reading. -/
theorem st_open (c : Dev nD) (q : Fin 4) (t : ℕ) :
    st X c q t ⊢ iprop(∃ sh : PosShare TreeShare, slotAt c q (sl t) sh (land X c q t) ∗ (slotAt c q (sl t) sh (land X c q t) -∗ st X c q t)) := by
  unfold st
  iintro ⟨H1, H2, H3, H4, H5⟩
  ihave ⟨%sh, Hs, Hb⟩ := (hold_open (F := F) X c q t) $$ H4
  iexists sh
  isplitl [Hs]; · iexact Hs
  iintro Hs
  ihave H4 := Hb $$ Hs
  isplitl [H1]; · iexact H1
  isplitl [H2]; · iexact H2
  isplitl [H3]; · iexact H3
  isplitl [H4]; · iexact H4
  iexact H5

/-- Reading the rows of `x` a stream holds, then the weights. -/
theorem ld_pair (c : Dev nD) (q : Fin 4) (j : ℕ) {off : Fin 4 → ℕ} (h : off = ![q.val, (sl j).val, 0, 0]) {inb hl inb' hl'}
    {k : Vec F S1x1x128x8192 .bf16 → Vec F S8192x256 .bf16 → Prog (TpuEff nD τ sig (Elt F) Λ₀ .tc) α} :
    iprop(st X c q j ∗ wbAt W c)
      ⊢ iprop(((st X c q j ∗ wbAt W c) -∗ runs c (k (land X c q j) (k0_pay10 (W c))) Q)
        -∗ runs c (.op (.load commM (Rect.unit (s := S4x3x128x8192) off S1x1x128x8192.size inb).toLoadRect hl) fun x =>
            .op (.load wbM (Rect.unit (s := S8192x256) ![0, 0] S8192x256.size inb').toLoadRect hl') fun w => k x w) Q) := by
  unfold wbAt
  iintro ⟨Hs, Hw⟩ Hk
  ihave ⟨%sh, Hs, Hb⟩ := (st_open (F := F) X c q j) $$ Hs
  iapply (ld_slot (F := F) c q (sl j) sh (land X c q j) h) $$ Hs
  iintro Hs
  iapply (ld_wb (F := F) c (k0_pay10 (W c))) $$ Hw
  iintro Hw
  iapply Hk
  isplitl [Hs Hb]
  · iapply Hb; iexact Hs
  iexact Hw

end Ops

section Parts
variable (c : Dev nD) (t : Fin k0_t1_loop.trips)

theorem part5 (hw : k0_chk3 (wd (posOf c))) (arg9 w1 w2 w3 : BitVec 32) :
    iprop(tabAt (F := F) c ∗ wbAt W c ∗ st X c 0 (hop t + 1))
      ⊢ runs c (k0_part5 tabM (Memref.isWhole_whole _) xM (Memref.isWhole_whole _) wM (Memref.isWhole_whole _) outM (Memref.isWhole_whole _)
          commM (Memref.isWhole_whole _) wbM (Memref.isWhole_whole _) cc0_scratch2 cc0_scratch3 cc0_scratch4 (wd (posOf c)) hw t arg9 w1 w2 w3)
        (fun r => iprop(⌜r.2.1 = chunk X W c 0 (org 0 c (hop t + 1)) ∧ r.2.2.1 = wd (org 0 c (hop t + 1))⌝
          ∗ tabAt (F := F) c ∗ wbAt W c ∗ st X c 0 (hop t + 1))) := by
  simp only [k0_part5_eq_skeleton]; unfold k0_part5_skel
  simp only [smemLoad, smemLoadElt, Prog.lift, Prog.bind_op, Prog.bind_ret, Prog.pure_eq_ret, Prog.bind_assoc]
  iintro ⟨Ht, Hw, Hs⟩
  iapply (ld_pair (F := F) X W c 0 (hop t + 1) (off21_eq t)) $$ [Hs Hw]
  · isplitl [Hs] <;> iassumption
  iintro ⟨Hs, Hw⟩
  iapply (ld_tab (F := F) c (tbl_org0 c t)) $$ Ht
  iintro Ht
  iapply (assume_ok c (chk4_wd _))
  unfold runs; rw [wp_ret]; imodintro
  isplitr; · ipureintro; exact ⟨rfl, rfl⟩
  isplitl [Ht]; · iexact Ht
  isplitl [Hw] <;> iassumption

theorem part6 (hw : k0_chk3 (wd (posOf c))) (arg9 w1 : BitVec 32) (v : FVec F S128x256 .f32) (o : Elt F .i32) (ho : k0_chk4 o) (w3 : BitVec 32)
    (hv : v = chunk X W c 0 (org 0 c (hop t + 1))) (he : o = wd (org 0 c (hop t + 1))) (d : Fin 4 → ℕ) (hd : ∀ q, d q = hop t + 1) :
    iprop(tabAt (F := F) c ∗ wbAt W c ∗ outs X W c d ∗ st X c 2 (hop t + 1))
      ⊢ runs c (k0_part6 tabM (Memref.isWhole_whole _) xM (Memref.isWhole_whole _) wM (Memref.isWhole_whole _) outM (Memref.isWhole_whole _)
          commM (Memref.isWhole_whole _) wbM (Memref.isWhole_whole _) cc0_scratch2 cc0_scratch3 cc0_scratch4 (wd (posOf c)) hw t arg9 w1 v o ho w3)
        (fun _ => iprop(tabAt (F := F) c ∗ wbAt W c ∗ outs X W c (Function.update (Function.update d 0 (hop t + 2)) 2 (hop t + 2)) ∗ st X c 2 (hop t + 1))) := by
  subst hv he
  simp only [k0_part6_eq_skeleton]; unfold k0_part6_skel
  simp only [smemLoad, smemLoadElt, Prog.lift, Prog.bind_op, Prog.bind_ret, Prog.pure_eq_ret, Prog.bind_assoc]
  iintro ⟨Ht, Hw, Ho, Hs⟩
  iapply (st_out (F := F) X W c 0 (hop t + 1) d (hd 0) _ rfl (off23_eq (org 0 c (hop t + 1)))) $$ Ho
  iintro Ho
  iapply (ld_pair (F := F) X W c 2 (hop t + 1) (off24_eq t)) $$ [Hs Hw]
  · isplitl [Hs] <;> iassumption
  iintro ⟨Hs, Hw⟩
  iapply (ld_tab (F := F) c (tbl_org2 c t)) $$ Ht
  iintro Ht
  iapply (assume_ok c (chk5_wd _))
  iapply (st_out (F := F) X W c 2 (hop t + 1) (Function.update d 0 (hop t + 2)) (by rw [Function.update_of_ne (by decide), hd]) _ rfl (off26_eq (org 2 c (hop t + 1)))) $$ Ho
  iintro Ho
  unfold runs; rw [wp_ret]; imodintro
  isplitl [Ht]; · iexact Ht
  isplitl [Hw]; · iexact Hw
  isplitl [Ho] <;> iassumption

theorem part9 (hw : k0_chk3 (wd (posOf c))) (arg9 w1 w2 w5 : BitVec 32) (w3 w4 : BitVec 1) (d : Fin 4 → ℕ) (hd : d 1 = hop t + 1) :
    iprop(tabAt (F := F) c ∗ wbAt W c ∗ outs X W c d ∗ st X c 1 (hop t + 1))
      ⊢ runs c (k0_part9 tabM (Memref.isWhole_whole _) xM (Memref.isWhole_whole _) wM (Memref.isWhole_whole _) outM (Memref.isWhole_whole _)
          commM (Memref.isWhole_whole _) wbM (Memref.isWhole_whole _) cc0_scratch2 cc0_scratch3 cc0_scratch4 (wd (posOf c)) hw t arg9 w1 w2 w3 w4 w5)
        (fun _ => iprop(tabAt (F := F) c ∗ wbAt W c ∗ outs X W c (Function.update d 1 (hop t + 2)) ∗ st X c 1 (hop t + 1))) := by
  simp only [k0_part9_eq_skeleton]; unfold k0_part9_skel
  simp only [smemLoad, smemLoadElt, Prog.lift, Prog.bind_op, Prog.bind_ret, Prog.pure_eq_ret, Prog.bind_assoc]
  iintro ⟨Ht, Hw, Ho, Hs⟩
  iapply (ld_pair (F := F) X W c 1 (hop t + 1) (off43_eq t)) $$ [Hs Hw]
  · isplitl [Hs] <;> iassumption
  iintro ⟨Hs, Hw⟩
  iapply (ld_tab (F := F) c (tbl_org1 c t)) $$ Ht
  iintro Ht
  iapply (assume_ok c (chk6_wd _))
  iapply (st_out (F := F) X W c 1 (hop t + 1) d hd _ rfl (off45_eq (org 1 c (hop t + 1)))) $$ Ho
  iintro Ho
  unfold runs; rw [wp_ret]; imodintro
  isplitl [Ht]; · iexact Ht
  isplitl [Hw]; · iexact Hw
  isplitl [Ho] <;> iassumption

/-- What a device holds before trip `n`. -/
def loopI (n : ℕ) : sProp 𝕄 :=
  iprop(Inv X K ιs ∗ (heard c 0 ∗ heard c 1 ∗ heard c 2 ∗ heard c 3) ∗ ow c (Owe c (fun _ => n + 2) (fun _ => n))
    ∗ (st X c 0 n ∗ st X c 1 n ∗ st X c 2 n ∗ st X c 3 n) ∗ outs X W c (fun _ => n + 1) ∗ tabAt (F := F) c ∗ wbAt W c)

/-- All four streams moved on by one. -/
theorem up4 (n m : ℕ) :
    Function.update (Function.update (Function.update (Function.update (fun _ : Fin 4 => n) 0 m) 2 m) 1 m) 3 m = fun _ => m := by
  funext p; fin_cases p <;> rfl

theorem up2 (n m : ℕ) (q : Fin 4) (h : q = 1 ∨ q = 3) : Function.update (Function.update (fun _ : Fin 4 => n) 0 m) 2 m q = n := by
  rcases h with rfl | rfl <;> rfl

/-- A trip takes what a device holds before it to what it holds before the next. -/
theorem trip (hw1 : k0_chk1 (wd (nxt c))) (hw2 : k0_chk2 (wd (prv c))) (hw3 : k0_chk3 (wd (posOf c))) :
    loopI X W K ιs c (hop t)
      ⊢ runs c (k0_part10 tabM (Memref.isWhole_whole _) xM (Memref.isWhole_whole _) wM (Memref.isWhole_whole _) outM (Memref.isWhole_whole _)
          commM (Memref.isWhole_whole _) wbM (Memref.isWhole_whole _) cc0_scratch2 cc0_scratch3 cc0_scratch4 (wd (nxt c)) hw1 (wd (prv c)) hw2 (wd (posOf c)) hw3
          0#32 1#32 t)
        (fun _ => loopI X W K ιs c (hop t + 1)) := by
  have ht := hop_lt t
  have hA : ∀ q, hop t + 2 ≤ Function.update (Function.update (fun _ : Fin 4 => hop t + 2) 0 (hop t + 3)) 2 (hop t + 3) q := up_le (up_le fun _ => Nat.le_refl _)
  have hB : ∀ q, hop t ≤ Function.update (Function.update (fun _ : Fin 4 => hop t) 0 (hop t + 1)) 2 (hop t + 1) q := fun q => by fin_cases q <;> simp [Function.update]
  simp only [k0_part10_eq_skeleton]; unfold k0_part10_skel loopI
  simp only [smemLoad, smemLoadElt, Prog.lift, Prog.bind_op, Prog.bind_ret, Prog.pure_eq_ret, Prog.bind_assoc]
  iintro ⟨#HI, ⟨#H0, #H1, #H2, #H3⟩, HO, ⟨Hs0, Hs1, Hs2, Hs3⟩, Ho, Ht, Hw⟩
  iapply (seq (part3 (F := F) X K ιs c t (fun _ => hop t + 2) (fun _ => hop t) (wd (nxt c)) (fun _ => Nat.le_refl _) (fun _ => Nat.le_refl _))) $$ [HO Hs0]
  · isplitr; · iexact HI
    isplitl [HO] <;> iassumption
  iintro %arg9 ⟨%h9, HO, Hs0⟩
  subst h9
  iapply (seq (part4 (F := F) X K ιs c t (fun _ => hop t + 2) (fun _ => hop t) hw1 hw2 (fun _ => rfl) (fun _ => rfl))) $$ [HO Hs0 Hs2]
  · isplitr; · iexact HI
    isplitr; · iexact H0
    isplitr; · iexact H2
    isplitl [HO]; · iexact HO
    isplitl [Hs0] <;> iassumption
  iintro %r4 ⟨HO, Hs0, Hs2⟩
  iapply (seq (part5 (F := F) X W c t hw3 _ _ _ _)) $$ [Ht Hw Hs0]
  · isplitl [Ht]; · iexact Ht
    isplitl [Hw] <;> iassumption
  iintro %r5 ⟨%h5, Ht, Hw, Hs0⟩
  iapply (seq (part6 (F := F) X W c t hw3 _ _ _ _ _ _ h5.1 h5.2 (fun _ => hop t + 1) (fun _ => rfl))) $$ [Ht Hw Ho Hs2]
  · isplitl [Ht]; · iexact Ht
    isplitl [Hw]; · iexact Hw
    isplitl [Ho] <;> iassumption
  iintro %r6 ⟨Ht, Hw, Ho, Hs2⟩
  iapply (seq (part7 (F := F) X K ιs c t _ _ (wd (nxt c)) _ _ hA hB)) $$ [HO Hs1]
  · isplitr; · iexact HI
    isplitl [HO] <;> iassumption
  iintro %r7 ⟨HO, Hs1⟩
  iapply (seq (part8 (F := F) X K ιs c t _ _ hw1 hw2 hA hB (up2 _ _ 1 (Or.inl rfl)) (up2 _ _ 3 (Or.inr rfl)) (up2 _ _ 1 (Or.inl rfl)) (up2 _ _ 3 (Or.inr rfl))))
    $$ [HO Hs1 Hs3]
  · isplitr; · iexact HI
    isplitr; · iexact H1
    isplitr; · iexact H3
    isplitl [HO]; · iexact HO
    isplitl [Hs1] <;> iassumption
  iintro %r8 ⟨HO, Hs1, Hs3⟩
  iapply (seq (part9 (F := F) X W c t hw3 _ _ _ _ _ _ _ (up2 _ _ 1 (Or.inl rfl)))) $$ [Ht Hw Ho Hs1]
  · isplitl [Ht]; · iexact Ht
    isplitl [Hw]; · iexact Hw
    isplitl [Ho] <;> iassumption
  iintro %r9 ⟨Ht, Hw, Ho, Hs1⟩
  iapply (ld_pair (F := F) X W c 3 (hop t + 1) (off46_eq t)) $$ [Hs3 Hw]
  · isplitl [Hs3] <;> iassumption
  iintro ⟨Hs3, Hw⟩
  iapply (ld_tab (F := F) c (tbl_org3 c t)) $$ Ht
  iintro Ht
  iapply (assume_ok c (chk7_wd _))
  iapply (st_out (F := F) X W c 3 (hop t + 1) _ (by rw [Function.update_of_ne (by decide)]; exact up2 _ _ 3 (Or.inr rfl)) _ rfl (off48_eq (org 3 c (hop t + 1)))) $$ Ho
  rw [up4, up4, up4]
  iintro Ho
  unfold runs; rw [wp_ret]; imodintro
  isplitr; · iexact HI
  isplitr
  · isplitr; · iexact H0
    isplitr; · iexact H1
    isplitr <;> iassumption
  isplitl [HO]; · iexact HO
  isplitl [Hs0 Hs1 Hs2 Hs3]
  · isplitl [Hs0]; · iexact Hs0
    isplitl [Hs1]; · iexact Hs1
    isplitl [Hs2] <;> iassumption
  isplitl [Ho]; · iexact Ho
  isplitl [Ht] <;> iassumption

end Parts

end Cert.Proof.AG

end
-- ==== Proof.Prologue.lean ====
/- The start of a device's body: the barrier, the first transfer of each stream, the products of the device's own rows. -/
module

public import proofs.«01_k».proof.Proof.Prods

@[expose] public section

set_option maxRecDepth 10000

noncomputable section

namespace Cert.Proof.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → Vec F S512x8192 .bf16) (W : Dev nD → Vec F S8192x256 .bf16)
variable (K : GSem nD τ sig → ℕ) (ιs : Key → ℕ)

/-! ## A stream before its first transfer -/

/-- The turns to start every transfer. -/
def toks0 (c : Dev nD) (q : Fin 4) : sProp 𝕄 :=
  bigSep (Finset.Ico 0 15) fun j => iprop(dutyTok ER (sendCell c q (sl j)) (j / 3) 0
    ∗ dutyTok ER (recvCell (dst q c) q (sl (j + 1))) (j / 3) 0 ∗ writeTok EK (dst q c, q, sl (j + 1)) ((j + 3) / 3))
/-- A stream whose cells are open and whose places are all its device's own. -/
def raw (c : Dev nD) (q : Fin 4) : sProp 𝕄 :=
  iprop((curs (sendCell c q 0) 0 ∗ curs (sendCell c q 1) 0 ∗ curs (sendCell c q 2) 0)
    ∗ (curs (recvCell c q 0) 0 ∗ curs (recvCell c q 1) 0 ∗ curs (recvCell c q 2) 0) ∗ curs (creditCell c q) 0
    ∗ lands c q 0 ∗ toks0 c q ∗ (bigSep (Finset.Ico 0 13) fun r => cred (tallyAt (creditCell c q) (2 * r + 3) 1))
    ∗ (readerAt EK (c, q, 0) 0 ∗ readerAt EK (c, q, 1) 0 ∗ readerAt EK (c, q, 2) 0)
    ∗ (bigSep (Finset.Ico 0 13) fun r => dutyTok ER (creditCell (src q c) q) 0 r)
    ∗ slotFree (F := F) (c, q, 1) ∗ slotFree (F := F) (c, q, 2))
/-- A stream with its two free places given away. -/
def given (c : Dev nD) (q : Fin 4) : sProp 𝕄 :=
  iprop(sends c q 0 ∗ recvs c q 0 ∗ lands c q 0 ∗ toks0 c q ∗ taken c q 0 ∗ rels (F := F) c q 0)

/-- A place given away for its first landing. -/
theorem give (c : Dev nD) (q : Fin 4) (s : Fin 3) :
    iprop(Inv X K ιs ∗ readerAt EK (c, q, s) 0 ∗ slotFree (F := F) (c, q, s))
      ⊢ (|={Set.univ}=> iprop(readerAt EK (c, q, s) 1 ∗ released EK (c, q, s) 1) : sProp 𝕄) := by
  iintro ⟨#HI, Hr, Hf⟩
  ihave #HIs := (Inv_slot (F := F) X K ιs (c, q, s)) $$ HI
  iapply (slot_release EK (Set.mem_univ _) (slot_slot_false (ℓ := (slotM q s).view.loc (c : Thread nD τ)) (slot_nonempty q s)) 0)
  isplitr; · iexact HIs
  isplitl [Hr]; · iexact Hr
  iexact Hf

theorem give_both (c : Dev nD) (q : Fin 4) :
    iprop(Inv X K ιs ∗ raw (F := F) c q)
      ⊢ (|={Set.univ}=> iprop(given (F := F) c q ∗ (freed c q 1 ∗ freed c q 2 ∗ reached ER (creditCell c q) 0)) : sProp 𝕄) := by
  unfold raw
  simp only [curs]
  iintro ⟨#HI, Hs, ⟨Hr0, ⟨Hr1, #H1⟩, ⟨Hr2, #H2⟩⟩, ⟨Hc, #HcR⟩, Hl, Ht, Hcr, ⟨Hd0, Hd1, Hd2⟩, Hdt, Hf1, Hf2⟩
  imod (give (F := F) X K ιs c q 1) $$ [Hd1 Hf1] with ⟨Hd1, #Hg1⟩
  · isplitr; · iexact HI
    isplitl [Hd1] <;> iassumption
  imod (give (F := F) X K ιs c q 2) $$ [Hd2 Hf2] with ⟨Hd2, #Hg2⟩
  · isplitr; · iexact HI
    isplitl [Hd2] <;> iassumption
  imodintro
  have f1 : iprop(released EK (c, q, 1) 1 ∗ reached ER (recvCell c q 1) 0) ⊢ freed (F := F) c q 1 := BI.Entails.refl _
  have f2 : iprop(released EK (c, q, 2) 1 ∗ reached ER (recvCell c q 2) 0) ⊢ freed (F := F) c q 2 := BI.Entails.refl _
  ihave #Hfr1 := f1 $$ []
  · isplitr; · iexact Hg1
    iexact H1
  ihave #Hfr2 := f2 $$ []
  · isplitr; · iexact Hg2
    iexact H2
  isplitl [Hs Hr0 Hr1 Hr2 Hc Hl Ht Hcr Hd0 Hd1 Hd2 Hdt]
  · unfold given sends recvs taken rels credits
    simp only [curs]
    isplitl [Hs]; · iexact Hs
    isplitl [Hr0 Hr1 Hr2]
    · isplitl [Hr1]
      · isplitl [Hr1]; · iexact Hr1
        iexact H1
      isplitl [Hr2]
      · isplitl [Hr2]; · iexact Hr2
        iexact H2
      iexact Hr0
    isplitl [Hl]; · iexact Hl
    isplitl [Ht]; · iexact Ht
    isplitl [Hc Hcr]
    · isplitl [Hc]
      · iexists ∅
        isplitr; · ipureintro; exact ⟨Nat.zero_le _, Finset.empty_subset _⟩
        isplitl [Hc]; · iexact Hc
        rw [bigSep_empty]; iempintro
      iexact Hcr
    rw [if_pos (by omega), if_neg (by omega), if_neg (by omega)]
    isplitl [Hd0 Hd1 Hd2]
    · isplitl [Hd0 Hd1 Hd2]
      · isplitl [Hd0]; · iexact Hd0
        isplitl [Hd1]; · iexact Hd1
        iexact Hd2
      isplitr; · iexact Hfr1
      iexact Hfr2
    isplitl [Hdt]; · iexact Hdt
    isplitr <;> iempintro
  isplitr; · iexact Hfr1
  isplitr; · iexact Hfr2
  iexact HcR

/-! ## The barrier -/

/-- What the barrier takes. -/
def barKit (c : Dev nD) : sProp 𝕄 :=
  iprop(dutyTok ER (barCell (nxt c)) 0 0 ∗ dutyTok ER (barCell (prv c)) 0 1 ∗ reached ER (barCell (nxt c)) 0 ∗ reached ER (barCell (prv c)) 0
    ∗ atPos ER (barCell c) 0 ∅ 0 ∗ cred (tallyAt (barCell c) 1 2))

section Ops
variable {α : Type} {Q : α → sProp (MT nD τ sig ℕ (Elt F) ℕ UU ℕ)} {k : PUnit → Prog (TpuEff nD τ sig (Elt F) Λ₀ .tc) α}

/-- The signal to a neighbour's barrier. -/
theorem bar_signal (c : Dev nD) {d d' : Dev nD} (hd : d = d') (δ : ℕ) (hδ : δ = 0 ∨ δ = 1) (hp : (if δ = 0 then prv d' else nxt d') = c) (O : CellTallies nD τ sig ℕ) :
    iprop(Inv X K ιs ∗ ow c (O + tallyAt (barCell d') 1 1) ∗ dutyTok ER (barCell d') 0 δ ∗ reached ER (barCell d') 0 ∗ ready (F := F) c)
      ⊢ iprop((ow c O -∗ runs c (k ⟨⟩) Q) -∗ runs c (.op (.semSignal (Dev.tc d) barS (1#32 : BitVec 32).toInt) k) Q) := by
  subst hd
  unfold ow
  rw [show (1#32 : BitVec 32).toInt = ((1#32 : BitVec 32).toNat : Int) from rfl]
  iintro ⟨#HI, ⟨%V, HO⟩, Ht, #Hr, #Hready⟩ Hk
  have hpay : (ringRd X).payload ((d : Thread nD τ), .reg barS) 0 δ = ready c := by rw [payload_bar X d 0 δ, hp]
  iapply (Rounds.wp_signal 𝒱₀ ER (ringRd X) (c : Thread nD τ) none (dst := (d : Thread nD τ)) (sem := barS) (r := 0) (d := δ)
      (κ := K (barCell d))
      (by rw [duties_bar]; rcases hδ with rfl | rfl <;> decide) (amount_bar X d 0 δ) 1
      (O₀ := O + tallyAt (barCell d) 1 1) O rfl) $$ [HO Ht]
  · isplitr; · iapply (Inv_bar (F := F) X K ιs d); iexact HI
    isplitl [HO]; · iexact HO
    isplitl [Ht]; · iexact Ht
    isplitr
    · rw [hpay]; iexact Hready
    iexact Hr
  iintro HO
  iapply Hk
  iexists _; iexact HO

/-- The wait for both neighbours' signals. -/
theorem bar_wait (c : Dev nD) :
    iprop(Inv X K ιs ∗ ow c (Owe c (fun _ => 1) (fun _ => 0)) ∗ atPos ER (barCell c) 0 ∅ 0 ∗ cred (tallyAt (barCell c) 1 2))
      ⊢ iprop(((ow c (Owe c (fun _ => 1) (fun _ => 0)) ∗ atPos ER (barCell c) 1 ∅ 0 ∗ ready (F := F) (prv c) ∗ ready (F := F) (nxt c)) -∗ runs c (k ⟨⟩) Q)
          -∗ runs c (.op (.semWait barS (2#32 : BitVec 32).toInt) k) Q) := by
  have hmay := (Inv_lev (F := F) X K ιs).trans
    (mayWait (F := F) c (.reg barS) 1 (fun _ => 1) (fun _ => 0) (by decide) (fun _ => by decide) (fun _ => by decide))
  unfold ow
  rw [show (2#32 : BitVec 32).toInt = ((2#32 : BitVec 32).toNat : Int) from rfl]
  iintro ⟨#HI, ⟨%V, HO⟩, Hat, Hc⟩ Hk
  iapply (Rounds.wp_wait_rest_token 𝒱₀ ER (ringRd X) (c : Thread nD τ) none (κ := K (barCell c))
      (wpE_semWait_eq 𝒱₀ (c : Thread nD τ) none Set.univ) (Set.mem_univ _) 1 (O := Owe c (fun _ => 1) (fun _ => 0)) (W := V) (R := 0) (m := 0) (T := ∅)
      ((Nat.zero_add _).trans (expect_bar X c).symm)) $$ [Hc HO Hat]
  · isplitr; · iapply (Inv_bar (F := F) X K ιs c); iexact HI
    isplitl [Hc]; · iexact Hc
    isplitl [HO]; · iexact HO
    isplitr; · iapply hmay; iexact HI
    iexact Hat
  iintro ⟨HO, Hat, -, Hpay⟩
  ihave ⟨Hp, Hn⟩ := (Entails.of_eq (rest_bar X c)) $$ Hpay
  iapply Hk
  isplitl [HO]; · iexists _; iexact HO
  isplitl [Hat]; · iexact Hat
  isplitl [Hp] <;> iassumption

/-- What the neighbours said, stream by stream. -/
theorem heard_of (c : Dev nD) (q : Fin 4) : iprop(ready (F := F) (prv c) ∗ ready (F := F) (nxt c)) ⊢ iprop(heard c q ∗ freed (dst q c) q 1) := by
  unfold ready heard
  rw [take_of (Finset.mem_univ q), take_of (Finset.mem_univ q)]
  iintro ⟨⟨⟨#P1, #P2, #P3⟩, -⟩, ⟨⟨#N1, #N2, #N3⟩, -⟩⟩
  unfold dst src
  split
  · isplitr
    · isplitr; · iexact N2
      iexact P3
    iexact N1
  · isplitr
    · isplitr; · iexact P2
      iexact N3
    iexact P1

/-! ## Filling a place, and the first transfer -/

/-- The block of `x`, whole, in its staging buffer. -/
def xAt (c : Dev nD) : sProp 𝕄 := has c cc0_stg1_0 (X c)
/-- The block of the weights. -/
def wAt (c : Dev nD) : sProp 𝕄 := has c cc0_stg2_0 (W c)

/-- Stream `q`'s rows of the block are read and put in its first place. -/
theorem fill (c : Dev nD) (q : Fin 4) {p : Vec F S128x8192 .bf16 → Vec F S1x1x128x8192 .bf16} (hp : p (rows (X c) q) = blk (X c) q)
    {offx : Fin 2 → ℕ} (hx : offx = ![q.val * 128, 0]) {off : Fin 4 → ℕ} (h : off = ![q.val, (0 : Fin 3).val, 0, 0]) {inbx hlx inb inb' hl hs hm} :
    iprop(xAt X c ∗ slotFree (F := F) (c, q, 0))
      ⊢ iprop(((xAt X c ∗ slotAt c q 0 fullShare (land X c q 0)) -∗ runs c (k ⟨⟩) Q)
        -∗ runs c (.op (.load xM (Rect.unit (s := S512x8192) offx S128x8192.size inbx).toLoadRect hlx) fun v =>
            .op (.load commM (Rect.unit (s := S4x3x128x8192) off S1x1x128x8192.size inb).toLoadRect hl) fun _ =>
              .op (.store commM (Rect.unit (s := S4x3x128x8192) off S1x1x128x8192.size inb') (p v) Finset.univ hs hm) k) Q) := by
  subst hx
  unfold xAt
  iintro ⟨Hx, Hf⟩ Hk
  iapply (wp_load_rect 𝒱₀ (c : Thread nD τ) none Set.univ (m := xM) (r := rowsRect q) (Finset.subset_univ _)) $$ Hx
  iintro Hx
  have e : (xM.access (rowsRect q)).read (Elt F) (X c) = rows (X c) q := rfl
  rw [e, hp]
  iapply (st_slot (F := F) c q 0 (blk (X c) q) h) $$ Hf
  iintro Hs
  iapply Hk
  isplitl [Hx]; · iexact Hx
  iexact Hs

/-- A stream's first transfer. -/
theorem first_start (c : Dev nD) (q : Fin 4) (a b : Fin 4 → ℕ) (ha : a q = 1)
    {d : Dev nD} (hd : d = dst q c) {sS sR : DmaSem sig} (hs : sS = sendS q 0) (hr : sR = recvS q 1)
    {sM dM : Memref sig .tc .vmem S128x8192 .bf16} (hsM : sM = slotQ q 0) (hdM : dM = slotQ q 1)
    {w1 : sM.view.WordExact} {w2 : dM.view.WordExact} {hsc : dM.view.ref.isScScratch = false}
    {ht : DmaTarget.Typed .vmem (.dma sR) (.remote (Dev.tc d) dM (.dma sS) hsc)} :
    iprop(Inv X K ιs ∗ ow c (Owe c a b) ∗ given (F := F) c q ∗ slotAt c q 0 fullShare (land X c q 0) ∗ freed (dst q c) q 1)
      ⊢ iprop(((ow c (Owe c (Function.update a q 2) b) ∗ st X c q 0) -∗ runs c (k ⟨⟩) Q)
          -∗ runs c (.op (.enqueueDma sM (.remote (Dev.tc d) dM (.dma sS) hsc) (.dma sR) w1 w2 ht) k) Q) := by
  unfold given toks0 st hold toks sends
  simp only [curs]
  rw [if_pos (by omega), take_head (by omega : 0 < 15)]
  iintro ⟨#HI, HO, ⟨⟨⟨Hs0, #Hrs⟩, Hs1, Hs2⟩, Hr, Hl, ⟨⟨Ht1, Ht2, Ht3⟩, Hts⟩, Htk, Hrl⟩, Hslot, Hfr⟩ Hk
  ihave ⟨Hlft, Hrgt⟩ := ((owns_halves (c : Thread nD τ) (slotM q 0) fullShare (land X c q 0)).1) $$ Hslot
  iapply (step_start (F := F) X K ιs c q 0 (by omega) a b ha hd hs hr hsM hdM) $$ [HO Hrgt Hfr Ht1 Ht2 Ht3]
  · isplitr; · iexact HI
    isplitl [HO]; · iexact HO
    isplitl [Hrgt]; · iexact Hrgt
    isplitl [Hfr]; · iexact Hfr
    isplitr; · iexact Hrs
    isplitl [Ht1]; · iexact Ht1
    isplitl [Ht2]; · iexact Ht2
    iexact Ht3
  iintro ⟨HO, Hc⟩
  iapply Hk
  isplitl [HO]; · iexact HO
  isplitl [Hs0 Hs1 Hs2]
  · isplitl [Hs0]
    · isplitl [Hs0]; · iexact Hs0
      iexact Hrs
    isplitl [Hs1] <;> iassumption
  isplitl [Hr]; · iexact Hr
  isplitl [Hl]; · iexact Hl
  isplitl [Hlft Hc]
  · isplitl [Hlft]; · iexact Hlft
    iexact Hc
  isplitl [Hts]; · iexact Hts
  isplitl [Htk] <;> iassumption

/-- The weights are read and kept. -/
theorem keep_w (c : Dev nD) {p : Vec F S8192x256 .bf16 → Vec F S8192x256 .bf16} (hp : p (W c) = k0_pay10 (W c)) {inb hl inb' hl' inb'' hs hm} :
    iprop(wAt W c ∗ ∃ f, has (F := F) c cc0_scratch1 f)
      ⊢ iprop(((wAt W c ∗ wbAt W c) -∗ runs c (k ⟨⟩) Q)
        -∗ runs c (.op (.load wM (Rect.unit (s := S8192x256) ![0, 0] S8192x256.size inb).toLoadRect hl) fun v =>
            .op (.load wbM (Rect.unit (s := S8192x256) ![0, 0] S8192x256.size inb').toLoadRect hl') fun _ =>
              .op (.store wbM (Rect.unit (s := S8192x256) ![0, 0] S8192x256.size inb'') (p v) Finset.univ hs hm) k) Q) := by
  unfold wAt wbAt
  iintro ⟨Hw, ⟨%f, Hb⟩⟩ Hk
  iapply (wp_load_rect 𝒱₀ (c : Thread nD τ) none Set.univ (m := wM) (r := Rect.unit (s := S8192x256) ![0, 0] S8192x256.size inb) (Finset.subset_univ _)) $$ Hw
  iintro Hw
  have hz : (![0, 0] : Fin 2 → ℕ) = fun _ => 0 := by funext a; fin_cases a <;> rfl
  have e : (wM.access (Rect.unit (s := S8192x256) ![0, 0] S8192x256.size inb)).read (Elt F) (W c) = W c :=
    Memref.read_access_unit_zero (Elt F) cc0_stg2_0 hz inb (W c)
  rw [e, hp]
  iapply (ld_wb (F := F) c f) $$ Hb
  iintro Hb
  iapply (wp_store 𝒱₀ (c : Thread nD τ) none Set.univ (m := wbM) (r := Rect.unit (s := S8192x256) ![0, 0] S8192x256.size inb'') (Mk := Finset.univ) (Finset.subset_univ _)) $$ Hb
  iintro Hb
  have e' : (wbM.access (Rect.unit (s := S8192x256) ![0, 0] S8192x256.size inb'')).write (Elt F) f (k0_pay10 (W c)) Finset.univ = k0_pay10 (W c) :=
    Memref.write_access_unit_zero_univ (Elt F) cc0_scratch1 hz inb'' f (k0_pay10 (W c))
  ihave Hb := (Entails.of_eq (congrArg (fun g => (has (F := F) c cc0_scratch1 g : sProp 𝕄)) e')) $$ Hb
  iapply Hk
  isplitl [Hw] <;> iassumption

end Ops

end Cert.Proof.AG

end
-- ==== Proof.Body.lean ====
/- A device's whole body: the parts before the loop, the loop, and the cells closed behind it. -/
module

public import proofs.«01_k».proof.Proof.Prologue

@[expose] public section

set_option maxRecDepth 10000

noncomputable section

namespace Cert.Proof.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → Vec F S512x8192 .bf16) (W : Dev nD → Vec F S8192x256 .bf16)
variable (K : GSem nD τ sig → ℕ) (ιs : Key → ℕ)

section Parts
variable (c : Dev nD)

/-- The neighbours from the table, the first places of streams 0 and 2 filled, the barrier. -/
theorem part11 :
    iprop(Inv X K ιs ∗ ow c (O₀ c) ∗ barKit (F := F) c ∗ ready (F := F) c ∗ tabAt (F := F) c ∗ xAt X c
        ∗ slotFree (F := F) (c, 0, 0) ∗ slotFree (F := F) (c, 2, 0))
      ⊢ runs c (k0_part11 tabM (Memref.isWhole_whole _) xM (Memref.isWhole_whole _) wM (Memref.isWhole_whole _) outM (Memref.isWhole_whole _)
          commM (Memref.isWhole_whole _) wbM (Memref.isWhole_whole _) cc0_scratch2 cc0_scratch3 cc0_scratch4)
        (fun r => iprop(⌜r.1 = c ∧ r.2.2.1 = wd (nxt c) ∧ r.2.2.2.2.1 = wd (prv c) ∧ r.2.2.2.2.2.2.1 = wd (posOf c)⌝
          ∗ ow c (Owe c (fun _ => 1) (fun _ => 0)) ∗ atPos ER (barCell c) 1 ∅ 0 ∗ (ready (F := F) (prv c) ∗ ready (F := F) (nxt c))
          ∗ tabAt (F := F) c ∗ xAt X c ∗ slotAt c 0 0 fullShare (land X c 0 0) ∗ slotAt c 2 0 fullShare (land X c 2 0))) := by
  simp only [k0_part11_eq_skeleton]; unfold k0_part11_skel runs barKit O₀
  simp only [semSignalWord, semWaitWord, smemLoad, smemLoadElt, Prog.lift, Prog.bind_op, Prog.bind_ret, Prog.pure_eq_ret, Prog.bind_assoc, wp_deviceId]
  iintro ⟨#HI, HO, ⟨Ht0, Ht1, #Hrn, #Hrp, Hat, Hc⟩, #Hrd, Ht, Hx, Hf0, Hf2⟩
  iapply (ld_tab (F := F) c (tbl_nxt c)) $$ Ht
  iintro Ht
  iapply (assume_ok c (chk1_wd _))
  iapply (ld_tab (F := F) c (tbl_prv c)) $$ Ht
  iintro Ht
  iapply (assume_ok c (chk2_wd _))
  iapply (ld_tab (F := F) c (tbl_pos c)) $$ Ht
  iintro Ht
  iapply (assume_ok c (chk3_wd _))
  iapply (fill (F := F) X c 0 (p := k0_pay6) rfl rfl rfl) $$ [Hx Hf0]
  · isplitl [Hx] <;> iassumption
  iintro ⟨Hx, Hs0⟩
  iapply (fill (F := F) X c 2 (p := k0_pay7) rfl rfl rfl) $$ [Hx Hf2]
  · isplitl [Hx] <;> iassumption
  iintro ⟨Hx, Hs2⟩
  iapply (bar_signal (F := F) X K ιs c (Fin.ext (dev_eq (nxt c)).1) 0 (Or.inl rfl) (by rw [if_pos rfl, prv_nxt]) _) $$ [HO Ht0]
  · isplitr; · iexact HI
    isplitl [HO]; · iexact HO
    isplitl [Ht0]; · iexact Ht0
    isplitr; · iexact Hrn
    iexact Hrd
  iintro HO
  iapply (bar_signal (F := F) X K ιs c (Fin.ext (dev_eq (prv c)).2.1) 1 (Or.inr rfl) (by rw [if_neg (by decide), nxt_prv]) _) $$ [HO Ht1]
  · isplitr; · iexact HI
    isplitl [HO]; · iexact HO
    isplitl [Ht1]; · iexact Ht1
    isplitr; · iexact Hrp
    iexact Hrd
  iintro HO
  iapply (bar_wait (F := F) X K ιs c) $$ [HO Hat Hc]
  · isplitr; · iexact HI
    isplitl [HO]; · iexact HO
    isplitl [Hat] <;> iassumption
  iintro ⟨HO, Hat, Hp, Hn⟩
  unfold runs; rw [wp_ret]; imodintro
  isplitr; · ipureintro; exact ⟨rfl, rfl, rfl, rfl⟩
  isplitl [HO]; · iexact HO
  isplitl [Hat]; · iexact Hat
  isplitl [Hp Hn]; · isplitl [Hp] <;> iassumption
  isplitl [Ht]; · iexact Ht
  isplitl [Hx]; · iexact Hx
  isplitl [Hs0] <;> iassumption

variable (a b : Fin 4 → ℕ)

/-- The first transfers of streams 0 and 2 started, the first place of stream 1 filled. -/
theorem part12 (hw1 : k0_chk1 (wd (nxt c))) (hw2 : k0_chk2 (wd (prv c))) (ha : ∀ q, a q = 1) :
    iprop(Inv X K ιs ∗ ow c (Owe c a b) ∗ (ready (F := F) (prv c) ∗ ready (F := F) (nxt c)) ∗ xAt X c
        ∗ (given (F := F) c 0 ∗ slotAt c 0 0 fullShare (land X c 0 0)) ∗ (given (F := F) c 2 ∗ slotAt c 2 0 fullShare (land X c 2 0))
        ∗ slotFree (F := F) (c, 1, 0))
      ⊢ runs c (k0_part12 tabM (Memref.isWhole_whole _) xM (Memref.isWhole_whole _) wM (Memref.isWhole_whole _) outM (Memref.isWhole_whole _)
          commM (Memref.isWhole_whole _) wbM (Memref.isWhole_whole _) cc0_scratch2 cc0_scratch3 cc0_scratch4 (wd (nxt c)) hw1 (wd (prv c)) hw2)
        (fun _ => iprop(ow c (Owe c (Function.update (Function.update a 0 2) 2 2) b) ∗ xAt X c ∗ st X c 0 0 ∗ st X c 2 0
          ∗ slotAt c 1 0 fullShare (land X c 1 0))) := by
  simp only [k0_part12_eq_skeleton]; unfold k0_part12_skel runs
  simp only [Prog.lift, Prog.bind_op, Prog.bind_ret, Prog.pure_eq_ret, Prog.bind_assoc]
  iintro ⟨#HI, HO, #Hh, Hx, ⟨Hg0, Hs0⟩, ⟨Hg2, Hs2⟩, Hf1⟩
  ihave ⟨-, #Hf⟩ := (heard_of (F := F) c 0) $$ Hh
  ihave ⟨-, #Hf'⟩ := (heard_of (F := F) c 2) $$ Hh
  iapply (first_start (F := F) X K ιs c 0 a b (ha 0) (Fin.ext (dev_eq (nxt c)).2.2.1) (send_sem 0 0) (recv_sem 0 1) rfl rfl) $$ [HO Hg0 Hs0]
  · isplitr; · iexact HI
    isplitl [HO]; · iexact HO
    isplitl [Hg0]; · iexact Hg0
    isplitl [Hs0]; · iexact Hs0
    iexact Hf
  iintro ⟨HO, Hs0⟩
  iapply (first_start (F := F) X K ιs c 2 (Function.update a 0 2) b (by rw [Function.update_of_ne (by decide), ha]) (Fin.ext (dev_eq (prv c)).2.2.2.1)
    (send_sem 2 0) (recv_sem 2 1) rfl rfl) $$ [HO Hg2 Hs2]
  · isplitr; · iexact HI
    isplitl [HO]; · iexact HO
    isplitl [Hg2]; · iexact Hg2
    isplitl [Hs2]; · iexact Hs2
    iexact Hf'
  iintro ⟨HO, Hs2⟩
  iapply (fill (F := F) X c 1 (p := k0_pay8) rfl rfl rfl) $$ [Hx Hf1]
  · isplitl [Hx] <;> iassumption
  iintro ⟨Hx, Hs1⟩
  unfold runs; rw [wp_ret]; imodintro
  isplitl [HO]; · iexact HO
  isplitl [Hx]; · iexact Hx
  isplitl [Hs0]; · iexact Hs0
  isplitl [Hs2] <;> iassumption

/-- The first transfer of stream 1 started, the first place of stream 3 filled. -/
theorem part13 (hw1 : k0_chk1 (wd (nxt c))) (v6 : Elt F .i32) (ha : a 1 = 1) :
    iprop(Inv X K ιs ∗ ow c (Owe c a b) ∗ (ready (F := F) (prv c) ∗ ready (F := F) (nxt c)) ∗ xAt X c
        ∗ (given (F := F) c 1 ∗ slotAt c 1 0 fullShare (land X c 1 0)) ∗ slotFree (F := F) (c, 3, 0))
      ⊢ runs c (k0_part13 tabM (Memref.isWhole_whole _) xM (Memref.isWhole_whole _) wM (Memref.isWhole_whole _) outM (Memref.isWhole_whole _)
          commM (Memref.isWhole_whole _) wbM (Memref.isWhole_whole _) cc0_scratch2 cc0_scratch3 cc0_scratch4 (wd (nxt c)) hw1 v6)
        (fun _ => iprop(ow c (Owe c (Function.update a 1 2) b) ∗ xAt X c ∗ st X c 1 0 ∗ slotAt c 3 0 fullShare (land X c 3 0))) := by
  simp only [k0_part13_eq_skeleton]; unfold k0_part13_skel runs
  simp only [Prog.lift, Prog.bind_op, Prog.bind_ret, Prog.pure_eq_ret, Prog.bind_assoc]
  iintro ⟨#HI, HO, #Hh, Hx, ⟨Hg1, Hs1⟩, Hf3⟩
  ihave ⟨-, #Hf⟩ := (heard_of (F := F) c 1) $$ Hh
  iapply (first_start (F := F) X K ιs c 1 a b ha (Fin.ext (dev_eq (nxt c)).2.2.2.2.1) (send_sem 1 0) (recv_sem 1 1) rfl rfl) $$ [HO Hg1 Hs1]
  · isplitr; · iexact HI
    isplitl [HO]; · iexact HO
    isplitl [Hg1]; · iexact Hg1
    isplitl [Hs1]; · iexact Hs1
    iexact Hf
  iintro ⟨HO, Hs1⟩
  iapply (fill (F := F) X c 3 (p := k0_pay9) rfl rfl rfl) $$ [Hx Hf3]
  · isplitl [Hx] <;> iassumption
  iintro ⟨Hx, Hs3⟩
  unfold runs; rw [wp_ret]; imodintro
  isplitl [HO]; · iexact HO
  isplitl [Hx]; · iexact Hx
  isplitl [Hs1] <;> iassumption

/-- The first transfer of stream 3 started, the weights kept, the product of the first rows written, the second rows read. -/
theorem part14 (v2 : BitVec 32) (hw2 : k0_chk2 (wd (prv c))) (ha : a 3 = 1) (d : Fin 4 → ℕ) (hd : d 0 = 0) :
    iprop(Inv X K ιs ∗ ow c (Owe c a b) ∗ (ready (F := F) (prv c) ∗ ready (F := F) (nxt c)) ∗ (wAt W c ∗ ∃ f, has (F := F) c cc0_scratch1 f)
        ∗ outs X W c d ∗ (given (F := F) c 3 ∗ slotAt c 3 0 fullShare (land X c 3 0)) ∗ st X c 0 0 ∗ st X c 1 0)
      ⊢ runs c (k0_part14 tabM (Memref.isWhole_whole _) xM (Memref.isWhole_whole _) wM (Memref.isWhole_whole _) outM (Memref.isWhole_whole _)
          commM (Memref.isWhole_whole _) wbM (Memref.isWhole_whole _) cc0_scratch2 cc0_scratch3 cc0_scratch4 c v2 (wd (prv c)) hw2)
        (fun r => iprop(⌜k0_pay14 r.1 r.2 = chunk X W c 1 (org 1 c 0)⌝ ∗ ow c (Owe c (Function.update a 3 2) b) ∗ (wAt W c ∗ wbAt W c)
          ∗ outs X W c (Function.update d 0 1) ∗ st X c 3 0 ∗ st X c 0 0 ∗ st X c 1 0)) := by
  simp only [k0_part14_eq_skeleton]; unfold k0_part14_skel runs
  simp only [Prog.lift, Prog.bind_op, Prog.bind_ret, Prog.pure_eq_ret, Prog.bind_assoc]
  iintro ⟨#HI, HO, #Hh, Hw, Ho, ⟨Hg3, Hs3⟩, Hs0, Hs1⟩
  ihave ⟨-, #Hf⟩ := (heard_of (F := F) c 3) $$ Hh
  iapply (first_start (F := F) X K ιs c 3 a b ha (Fin.ext (dev_eq (prv c)).2.2.2.2.2.1) (send_sem 3 0) (recv_sem 3 1) rfl rfl) $$ [HO Hg3 Hs3]
  · isplitr; · iexact HI
    isplitl [HO]; · iexact HO
    isplitl [Hg3]; · iexact Hg3
    isplitl [Hs3]; · iexact Hs3
    iexact Hf
  iintro ⟨HO, Hs3⟩
  iapply (keep_w (F := F) W c (p := k0_pay10) rfl) $$ Hw
  iintro ⟨Hw, Hb⟩
  iapply (ld_pair (F := F) X W c 0 0 rfl) $$ [Hs0 Hb]
  · isplitl [Hs0] <;> iassumption
  iintro ⟨Hs0, Hb⟩
  iapply (st_out (F := F) X W c 0 0 d hd _ rfl (off4_eq c 0)) $$ Ho
  iintro Ho
  iapply (ld_pair (F := F) X W c 1 0 rfl) $$ [Hs1 Hb]
  · isplitl [Hs1] <;> iassumption
  iintro ⟨Hs1, Hb⟩
  unfold runs; rw [wp_ret]; imodintro
  isplitr; · ipureintro; rfl
  isplitl [HO]; · iexact HO
  isplitl [Hw Hb]; · isplitl [Hw] <;> iassumption
  isplitl [Ho]; · iexact Ho
  isplitl [Hs3]; · iexact Hs3
  isplitl [Hs0] <;> iassumption

/-- The products of the second and third rows written, the fourth rows read. -/
theorem part15 (v2 : BitVec 32) (v v' : FVec F S128x256 .f32) (hv : k0_pay14 v v' = chunk X W c 1 (org 1 c 0)) (d : Fin 4 → ℕ) (hd1 : d 1 = 0) (hd2 : d 2 = 0) :
    iprop(wbAt W c ∗ outs X W c d ∗ st X c 2 0 ∗ st X c 3 0)
      ⊢ runs c (k0_part15 tabM (Memref.isWhole_whole _) xM (Memref.isWhole_whole _) wM (Memref.isWhole_whole _) outM (Memref.isWhole_whole _)
          commM (Memref.isWhole_whole _) wbM (Memref.isWhole_whole _) cc0_scratch2 cc0_scratch3 cc0_scratch4 c v2 v v')
        (fun r => iprop(⌜k0_pay1 r.1 r.2 = chunk X W c 3 (org 3 c 0)⌝ ∗ wbAt W c
          ∗ outs X W c (Function.update (Function.update d 1 1) 2 1) ∗ st X c 2 0 ∗ st X c 3 0)) := by
  simp only [k0_part15_eq_skeleton]; unfold k0_part15_skel runs
  simp only [Prog.lift, Prog.bind_op, Prog.bind_ret, Prog.pure_eq_ret, Prog.bind_assoc]
  iintro ⟨Hb, Ho, Hs2, Hs3⟩
  iapply (st_out (F := F) X W c 1 0 d hd1 _ hv (off4_eq c 1)) $$ Ho
  iintro Ho
  iapply (ld_pair (F := F) X W c 2 0 rfl) $$ [Hs2 Hb]
  · isplitl [Hs2] <;> iassumption
  iintro ⟨Hs2, Hb⟩
  iapply (st_out (F := F) X W c 2 0 (Function.update d 1 1) (by rw [Function.update_of_ne (by decide), hd2]) _ rfl (off4_eq c 2)) $$ Ho
  iintro Ho
  iapply (ld_pair (F := F) X W c 3 0 rfl) $$ [Hs3 Hb]
  · isplitl [Hs3] <;> iassumption
  iintro ⟨Hs3, Hb⟩
  unfold runs; rw [wp_ret]; imodintro
  isplitr; · ipureintro; rfl
  isplitl [Hb]; · iexact Hb
  isplitl [Ho]; · iexact Ho
  isplitl [Hs2] <;> iassumption

end Parts

/-! ## The whole body -/

/-- The four rows of products a device writes first. -/
theorem up4' (n m : ℕ) :
    Function.update (Function.update (Function.update (Function.update (fun _ : Fin 4 => n) 0 m) 1 m) 2 m) 3 m = fun _ => m := by
  funext p; fin_cases p <;> rfl

/-- What a device starts its body with. -/
def opening (c : Dev nD) : sProp 𝕄 :=
  iprop(Inv X K ιs ∗ ow c (O₀ c) ∗ barKit (F := F) c ∗ (raw (F := F) c 0 ∗ raw (F := F) c 1 ∗ raw (F := F) c 2 ∗ raw (F := F) c 3)
    ∗ (slotFree (F := F) (c, 0, 0) ∗ slotFree (F := F) (c, 1, 0) ∗ slotFree (F := F) (c, 2, 0) ∗ slotFree (F := F) (c, 3, 0))
    ∗ tabAt (F := F) c ∗ xAt X c ∗ (wAt W c ∗ ∃ f, has (F := F) c cc0_scratch1 f) ∗ ∃ f, has (F := F) c cc0_stg3_0 f)

/-- Once every stream has given its free places, the device is ready. -/
theorem ready_of (c : Dev nD) :
    iprop((freed c 0 1 ∗ freed c 0 2 ∗ reached ER (creditCell c 0) 0) ∗ (freed c 1 1 ∗ freed c 1 2 ∗ reached ER (creditCell c 1) 0)
        ∗ (freed c 2 1 ∗ freed c 2 2 ∗ reached ER (creditCell c 2) 0) ∗ (freed c 3 1 ∗ freed c 3 2 ∗ reached ER (creditCell c 3) 0))
      ⊢ ready (F := F) c := by
  unfold ready
  rw [show (Finset.univ : Finset (Fin 4)) = {0, 1, 2, 3} from rfl, bigSep_insert (by decide), bigSep_insert (by decide), bigSep_insert (by decide), bigSep_singleton]
  exact Entails.rfl

/-- The result before anything is written. -/
theorem outs_zero (c : Dev nD) : iprop(∃ f, has (F := F) c cc0_stg3_0 f) ⊢ outs X W c (fun _ => 0) := by
  unfold outs
  iintro ⟨%f, H⟩
  iexists f
  isplitr; · ipureintro; intro q j h; exact absurd h (Nat.not_lt_zero j)
  iexact H

/-- The loop. -/
theorem loop_runs (c : Dev nD) (hw1 : k0_chk1 (wd (nxt c))) (hw2 : k0_chk2 (wd (prv c))) (hw3 : k0_chk3 (wd (posOf c))) :
    loopI X W K ιs c 0
      ⊢ runs c (Scf.Loop.for k0_t1_loop k0_t1_ok PUnit.unit (k0_t1_body (F := F) tabM (Memref.isWhole_whole _) xM (Memref.isWhole_whole _)
          wM (Memref.isWhole_whole _) outM (Memref.isWhole_whole _) commM (Memref.isWhole_whole _) wbM (Memref.isWhole_whole _)
          cc0_scratch2 cc0_scratch3 cc0_scratch4 (wd (nxt c)) hw1 (wd (prv c)) hw2 (wd (posOf c)) hw3))
        (fun _ => loopI X W K ιs c 15) := by
  iintro H
  iapply (Scf.wp_for frame (wpE (defs₀ (F := F)) 𝒱₀ (c : Thread nD τ) none) Set.univ k0_t1_loop.lb k0_t1_loop.ub k0_t1_loop.st k0_t1_ok
    PUnit.unit _ (fun n _ => loopI X W K ιs c n) (fun t _ => by
      unfold k0_t1_body
      iintro H
      iapply (seq (trip (F := F) X W K ιs c t hw1 hw2 hw3)) $$ H
      iintro %r H
      unfold runs; rw [Prog.pure_eq_ret, wp_ret]; imodintro; iexact H))
  isplitl [H]; · iexact H
  iintro %acc H
  have e : Scf.trips k0_t1_loop.lb k0_t1_loop.ub k0_t1_loop.st = 15 := trips15
  rw [e]
  iexact H

/-- The body from its start to the end of its loop. -/
theorem body_runs (c : Dev nD) :
    opening X W K ιs c
      ⊢ runs c (cc0_body tabM (Memref.isWhole_whole _) xM (Memref.isWhole_whole _) wM (Memref.isWhole_whole _) outM (Memref.isWhole_whole _)
          commM (Memref.isWhole_whole _) wbM (Memref.isWhole_whole _) cc0_scratch2 cc0_scratch3 cc0_scratch4)
        (fun _ => iprop(loopI X W K ιs c 15 ∗ atPos ER (barCell c) 1 ∅ 0 ∗ xAt X c ∗ wAt W c)) := by
  simp only [cc0_body_eq_skeleton]; unfold cc0_body_skel opening
  simp only [Prog.lift, Prog.bind_op, Prog.bind_ret, Prog.pure_eq_ret, Prog.bind_assoc]
  iintro ⟨#HI, HO, Hbar, ⟨Hr0, Hr1, Hr2, Hr3⟩, ⟨Hf0, Hf1, Hf2, Hf3⟩, Ht, Hx, Hw, Ho⟩
  ihave Ho := (outs_zero (F := F) X W c) $$ Ho
  imod (give_both (F := F) X K ιs c 0) $$ [Hr0] with ⟨Hg0, #He0⟩
  · isplitr; · iexact HI
    iexact Hr0
  imod (give_both (F := F) X K ιs c 1) $$ [Hr1] with ⟨Hg1, #He1⟩
  · isplitr; · iexact HI
    iexact Hr1
  imod (give_both (F := F) X K ιs c 2) $$ [Hr2] with ⟨Hg2, #He2⟩
  · isplitr; · iexact HI
    iexact Hr2
  imod (give_both (F := F) X K ιs c 3) $$ [Hr3] with ⟨Hg3, #He3⟩
  · isplitr; · iexact HI
    iexact Hr3
  ihave #Hrd := (ready_of (F := F) c) $$ []
  · isplitr; · iexact He0
    isplitr; · iexact He1
    isplitr; · iexact He2
    iexact He3
  iapply (seq (part11 (F := F) X K ιs c)) $$ [HO Hbar Ht Hx Hf0 Hf2]
  · isplitr; · iexact HI
    isplitl [HO]; · iexact HO
    isplitl [Hbar]; · iexact Hbar
    isplitr; · iexact Hrd
    isplitl [Ht]; · iexact Ht
    isplitl [Hx]; · iexact Hx
    isplitl [Hf0] <;> iassumption
  iintro %r ⟨%hr, HO, Hat, #Hh, Ht, Hx, Hs0, Hs2⟩
  obtain ⟨d0, v2, v4, hw1, v6, hw2, v8, hw3⟩ := r
  obtain ⟨h1, h2, h3, h4⟩ := hr
  dsimp only at h1 h2 h3 h4
  subst h1 h2 h3 h4
  dsimp only
  iapply (seq (part12 (F := F) X K ιs d0 (fun _ => 1) (fun _ => 0) hw1 hw2 (fun _ => rfl))) $$ [HO Hx Hg0 Hs0 Hg2 Hs2 Hf1]
  · isplitr; · iexact HI
    isplitl [HO]; · iexact HO
    isplitr; · iexact Hh
    isplitl [Hx]; · iexact Hx
    isplitl [Hg0 Hs0]; · isplitl [Hg0] <;> iassumption
    isplitl [Hg2 Hs2]; · isplitl [Hg2] <;> iassumption
    iexact Hf1
  iintro %r12 ⟨HO, Hx, Hs0, Hs2, Hs1⟩
  iapply (seq (part13 (F := F) X K ιs d0 _ _ hw1 _ (up2 1 2 1 (Or.inl rfl)))) $$ [HO Hx Hg1 Hs1 Hf3]
  · isplitr; · iexact HI
    isplitl [HO]; · iexact HO
    isplitr; · iexact Hh
    isplitl [Hx]; · iexact Hx
    isplitl [Hg1 Hs1]; · isplitl [Hg1] <;> iassumption
    iexact Hf3
  iintro %r13 ⟨HO, Hx, Hs1, Hs3⟩
  iapply (seq (part14 (F := F) X W K ιs d0 (Function.update (Function.update (Function.update (fun _ : Fin 4 => 1) 0 2) 2 2) 1 2) (fun _ => 0) v2 hw2 (by rw [Function.update_of_ne (by decide)]; exact up2 1 2 3 (Or.inr rfl)) (fun _ => 0) rfl)) $$ [HO Hw Ho Hg3 Hs3 Hs0 Hs1]
  · isplitr; · iexact HI
    isplitl [HO]; · iexact HO
    isplitr; · iexact Hh
    isplitl [Hw]; · iexact Hw
    isplitl [Ho]; · iexact Ho
    isplitl [Hg3 Hs3]; · isplitl [Hg3] <;> iassumption
    isplitl [Hs0] <;> iassumption
  iintro %r14 ⟨%h14, HO, ⟨Hw, Hb⟩, Ho, Hs3, Hs0, Hs1⟩
  iapply (seq (part15 (F := F) X W d0 v2 r14.1 r14.2 h14 (Function.update (fun _ : Fin 4 => 0) 0 1) (by rw [Function.update_of_ne (by decide)]) (by rw [Function.update_of_ne (by decide)]))) $$ [Hb Ho Hs2 Hs3]
  · isplitl [Hb]; · iexact Hb
    isplitl [Ho]; · iexact Ho
    isplitl [Hs2] <;> iassumption
  iintro %r15 ⟨%h15, Hb, Ho, Hs2, Hs3⟩
  iapply (st_out (F := F) X W d0 3 0 (Function.update (Function.update (Function.update (fun _ : Fin 4 => 0) 0 1) 1 1) 2 1) (by rw [Function.update_of_ne (by decide), Function.update_of_ne (by decide), Function.update_of_ne (by decide)]) _ h15 (off4_eq d0 3)) $$ Ho
  iintro Ho
  rw [up4, up4']
  ihave ⟨#Hq0, -⟩ := (heard_of (F := F) d0 0) $$ Hh
  ihave ⟨#Hq1, -⟩ := (heard_of (F := F) d0 1) $$ Hh
  ihave ⟨#Hq2, -⟩ := (heard_of (F := F) d0 2) $$ Hh
  ihave ⟨#Hq3, -⟩ := (heard_of (F := F) d0 3) $$ Hh
  iapply (seq (loop_runs (F := F) X W K ιs d0 hw1 hw2 hw3)) $$ [HO Ht Hs0 Hs1 Hs2 Hs3 Ho Hb]
  · unfold loopI
    isplitr; · iexact HI
    isplitr
    · isplitr; · iexact Hq0
      isplitr; · iexact Hq1
      isplitr; · iexact Hq2
      iexact Hq3
    isplitl [HO]; · iexact HO
    isplitl [Hs0 Hs1 Hs2 Hs3]
    · isplitl [Hs0]; · iexact Hs0
      isplitl [Hs1]; · iexact Hs1
      isplitl [Hs2] <;> iassumption
    isplitl [Ho]; · iexact Ho
    isplitl [Ht] <;> iassumption
  iintro %acc HL
  unfold runs; rw [wp_ret]; imodintro
  isplitl [HL]; · iexact HL
  isplitl [Hat]; · iexact Hat
  isplitl [Hx] <;> iassumption

/-! ## The cells closed -/

theorem shut_send (c : Dev nD) (q : Fin 4) (s : Fin 3) :
    iprop(Inv X K ιs ∗ curs (sendCell c q s) 5) ⊢ (|={Set.univ}=> semVal (sendCell c q s) 0 : sProp 𝕄) := by
  unfold curs
  iintro ⟨#HI, Hat, -⟩
  iapply (cell_close ER (ringRd X) (Set.mem_univ (K (sendCell c q s))) id (later_send X c q s))
  isplitr; · iapply (Inv_send (F := F) X K ιs c q s); iexact HI
  iexact Hat
theorem shut_recv (c : Dev nD) (q : Fin 4) (s : Fin 3) :
    iprop(Inv X K ιs ∗ curs (recvCell c q s) 5) ⊢ (|={Set.univ}=> semVal (recvCell c q s) 0 : sProp 𝕄) := by
  unfold curs
  iintro ⟨#HI, Hat, -⟩
  iapply (cell_close ER (ringRd X) (Set.mem_univ (K (recvCell c q s))) id (later_recv X c q s))
  isplitr; · iapply (Inv_recv (F := F) X K ιs c q s); iexact HI
  iexact Hat
theorem shut_bar (c : Dev nD) :
    iprop(Inv X K ιs ∗ atPos ER (barCell c) 1 ∅ 0) ⊢ (|={Set.univ}=> semVal (barCell c) 0 : sProp 𝕄) := by
  iintro ⟨#HI, Hat⟩
  iapply (cell_close ER (ringRd X) (Set.mem_univ (K (barCell c))) id (later_bar X c))
  isplitr; · iapply (Inv_bar (F := F) X K ιs c); iexact HI
  iexact Hat
/-- All thirteen credits taken. -/
theorem shut_credit (c : Dev nD) (q : Fin 4) :
    iprop(Inv X K ιs ∗ credits (F := F) c q 13) ⊢ (|={Set.univ}=> semVal (creditCell c q) 0 : sProp 𝕄) := by
  unfold credits
  iintro ⟨#HI, %S, %hS, Hat, -⟩
  have e : S = Finset.range 13 := Finset.eq_of_subset_of_card_le hS.2 (by rw [Finset.card_range]; exact hS.1)
  subst e
  imod (fupd_skip ER (ringRd X) (κ := K (creditCell c q)) (Es := Set.univ) (g := creditCell c q) (R := 0) (T := Finset.range 13) (m := 13)
    (Finset.Subset.refl _ |> (duties_credit X c q ▸ ·)) (expect_credit X c q).symm (Set.mem_univ _)) $$ [Hat] with ⟨Hat, -⟩
  · isplitr; · iapply (Inv_credit (F := F) X K ιs c q); iexact HI
    iexact Hat
  iapply (cell_close ER (ringRd X) (Set.mem_univ (K (creditCell c q))) id (later_credit X c q))
  isplitr; · iapply (Inv_credit (F := F) X K ιs c q); iexact HI
  iexact Hat

/-- A stream at the end: its semaphores at zero, its places its device's own. -/
def closed (c : Dev nD) (q : Fin 4) : sProp 𝕄 :=
  iprop((semVal (creditCell c q) 0 ∗ (semVal (sendCell c q 0) 0 ∗ semVal (sendCell c q 1) 0 ∗ semVal (sendCell c q 2) 0)
      ∗ (semVal (recvCell c q 0) 0 ∗ semVal (recvCell c q 1) 0 ∗ semVal (recvCell c q 2) 0))
    ∗ slotFree (F := F) (c, q, 0) ∗ slotFree (F := F) (c, q, 1) ∗ slotFree (F := F) (c, q, 2))

theorem shut (c : Dev nD) (q : Fin 4) : iprop(Inv X K ιs ∗ st X c q 15) ⊢ (|={Set.univ}=> closed (F := F) c q : sProp 𝕄) := by
  unfold st sends recvs taken rels hold
  rw [if_neg (show ¬ 15 ≤ 14 by decide), if_neg (show ¬ 15 ≤ 13 by decide), if_pos (show 14 ≤ 15 by decide), if_pos (show 15 ≤ 15 by decide)]
  iintro ⟨#HI, ⟨Hs0, Hs1, Hs2⟩, ⟨Hr1, Hr2, Hr0⟩, -, Hh, -, ⟨Hc, -⟩, -, -, Hf1, Hf2⟩
  imod (shut_send (F := F) X K ιs c q 0) $$ [Hs0] with Hs0
  · isplitr; · iexact HI
    iexact Hs0
  imod (shut_send (F := F) X K ιs c q 1) $$ [Hs1] with Hs1
  · isplitr; · iexact HI
    iexact Hs1
  imod (shut_send (F := F) X K ιs c q 2) $$ [Hs2] with Hs2
  · isplitr; · iexact HI
    iexact Hs2
  imod (shut_recv (F := F) X K ιs c q 0) $$ [Hr0] with Hr0
  · isplitr; · iexact HI
    iexact Hr0
  imod (shut_recv (F := F) X K ιs c q 1) $$ [Hr1] with Hr1
  · isplitr; · iexact HI
    iexact Hr1
  imod (shut_recv (F := F) X K ιs c q 2) $$ [Hr2] with Hr2
  · isplitr; · iexact HI
    iexact Hr2
  imod (shut_credit (F := F) X K ιs c q) $$ [Hc] with Hc
  · isplitr; · iexact HI
    iexact Hc
  ihave Hf0 := (owns_slotFree (F := F) c q (sl 15) (land X c q 15)) $$ Hh
  imodintro
  unfold closed
  isplitl [Hc Hs0 Hs1 Hs2 Hr0 Hr1 Hr2]
  · isplitl [Hc]; · iexact Hc
    isplitl [Hs0 Hs1 Hs2]
    · isplitl [Hs0]; · iexact Hs0
      isplitl [Hs1] <;> iassumption
    isplitl [Hr0]; · iexact Hr0
    isplitl [Hr1]; · iexact Hr1
    iexact Hr2
  isplitl [Hf0]; · iexact Hf0
  isplitl [Hf1]; · iexact Hf1
  iexact Hf2

/-- What a device ends its body with. -/
def ending (c : Dev nD) : sProp 𝕄 :=
  iprop(ow c 0 ∗ semVal (barCell c) 0 ∗ (closed (F := F) c 0 ∗ closed (F := F) c 1 ∗ closed (F := F) c 2 ∗ closed (F := F) c 3)
    ∗ outs X W c (fun _ => 16) ∗ tabAt (F := F) c ∗ xAt X c ∗ wAt W c ∗ wbAt W c)

theorem shut_all (c : Dev nD) :
    iprop(loopI X W K ιs c 15 ∗ atPos ER (barCell c) 1 ∅ 0 ∗ xAt X c ∗ wAt W c) ⊢ (|={Set.univ}=> ending X W c : sProp 𝕄) := by
  unfold loopI
  rw [Owe_end c (fun _ => 15 + 2) (fun _ => 15) (fun _ => by show 16 ≤ 15 + 2; omega) (fun _ => by show 13 ≤ 15; omega)]
  iintro ⟨⟨#HI, -, HO, ⟨H0, H1, H2, H3⟩, Ho, Ht, Hb⟩, Hat, Hx, Hw⟩
  imod (shut_bar (F := F) X K ιs c) $$ [Hat] with Hat
  · isplitr; · iexact HI
    iexact Hat
  imod (shut (F := F) X K ιs c 0) $$ [H0] with H0
  · isplitr; · iexact HI
    iexact H0
  imod (shut (F := F) X K ιs c 1) $$ [H1] with H1
  · isplitr; · iexact HI
    iexact H1
  imod (shut (F := F) X K ιs c 2) $$ [H2] with H2
  · isplitr; · iexact HI
    iexact H2
  imod (shut (F := F) X K ιs c 3) $$ [H3] with H3
  · isplitr; · iexact HI
    iexact H3
  imodintro
  unfold ending
  isplitl [HO]; · iexact HO
  isplitl [Hat]; · iexact Hat
  isplitl [H0 H1 H2 H3]
  · isplitl [H0]; · iexact H0
    isplitl [H1]; · iexact H1
    isplitl [H2] <;> iassumption
  isplitl [Ho]; · iexact Ho
  isplitl [Ht]; · iexact Ht
  isplitl [Hx]; · iexact Hx
  isplitl [Hw] <;> iassumption

/-- The whole body. -/
theorem body_all (c : Dev nD) :
    opening X W K ιs c
      ⊢ runs c (cc0_body tabM (Memref.isWhole_whole _) xM (Memref.isWhole_whole _) wM (Memref.isWhole_whole _) outM (Memref.isWhole_whole _)
          commM (Memref.isWhole_whole _) wbM (Memref.isWhole_whole _) cc0_scratch2 cc0_scratch3 cc0_scratch4)
        (fun _ => ending X W c) := by
  exact ((body_runs (F := F) X W K ιs c).trans (wp_mono _ _ _ fun _ => shut_all (F := F) X W K ιs c)).trans (wp_fupd _ _ _ _ _)

end Cert.Proof.AG

end
-- ==== Proof.Slots.lean ====
/- The rotating buffer as its places, and the result whole from its rows. -/
module

public import proofs.«01_k».proof.Proof.Body

@[expose] public section

set_option maxRecDepth 10000

noncomputable section

namespace Cert.Proof.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

theorem bigSep_three {M : Type} [URA M] (Φ : Fin 3 → sProp M) : bigSep Finset.univ Φ = iprop(Φ 0 ∗ Φ 1 ∗ Φ 2) :=
  bigSep_univ_eq_bigSepL [(0 : Fin 3), 1, 2] (by decide) (by decide) Φ
theorem bigSep_four {M : Type} [URA M] (Φ : Fin 4 → sProp M) : bigSep Finset.univ Φ = iprop(Φ 0 ∗ Φ 1 ∗ Φ 2 ∗ Φ 3) := bigSep_W0 Φ

/-! ## The rotating buffer -/

/-- The elements of a place. -/
abbrev slotSet (p : Fin 4 × Fin 3) : Finset (S4x3x128x8192.Idx) := (slotM p.1 p.2).view.set
theorem slotSet_eq (p : Fin 4 × Fin 3) : slotSet p = (slotRect p.1 p.2).set := View.set_slice_whole _ _

theorem slotSet_disjoint (p p' : Fin 4 × Fin 3) (h : p ≠ p') : Disjoint (slotSet p) (slotSet p') := by
  rw [slotSet_eq, slotSet_eq]
  by_cases h0 : p.1 = p'.1
  · refine Rect.unit_disjoint 1 ?_
    have e : S1x1x128x8192.size 1 = 1 := rfl
    have a1 : (![p.1.val, p.2.val, 0, 0] : Fin 4 → ℕ) 1 = p.2.val := rfl
    have a2 : (![p'.1.val, p'.2.val, 0, 0] : Fin 4 → ℕ) 1 = p'.2.val := rfl
    rw [e, a1, a2]
    have : p.2.val ≠ p'.2.val := fun hh => h (Prod.ext h0 (Fin.ext hh))
    omega
  · refine Rect.unit_disjoint 0 ?_
    have e : S1x1x128x8192.size 0 = 1 := rfl
    have a1 : (![p.1.val, p.2.val, 0, 0] : Fin 4 → ℕ) 0 = p.1.val := rfl
    have a2 : (![p'.1.val, p'.2.val, 0, 0] : Fin 4 → ℕ) 0 = p'.1.val := rfl
    rw [e, a1, a2]
    have : p.1.val ≠ p'.1.val := fun hh => h0 (Fin.ext hh)
    omega

theorem slotSet_cover : Finset.univ.biUnion slotSet = (Finset.univ : Finset S4x3x128x8192.Idx) := by
  ext i
  simp only [Finset.mem_biUnion, Finset.mem_univ, true_and, iff_true]
  refine ⟨(⟨(i 0).val, (i 0).isLt⟩, ⟨(i 1).val, (i 1).isLt⟩), ?_⟩
  rw [slotSet_eq, Rect.mem_set_unit]
  have h2 : (i 2).val < 128 := (i 2).isLt
  have h3 : (i 3).val < 8192 := (i 3).isLt
  intro a
  fin_cases a
  · exact ⟨Nat.le_refl _, Nat.lt_succ_self _⟩
  · exact ⟨Nat.le_refl _, Nat.lt_succ_self _⟩
  · exact ⟨Nat.zero_le _, by show (i 2).val < 0 + 128; omega⟩
  · exact ⟨Nat.zero_le _, by show (i 3).val < 0 + 8192; omega⟩

/-- Every place of a device's rotating buffer free. -/
def allFree (c : Dev nD) : sProp 𝕄 :=
  bigSep Finset.univ fun q : Fin 4 => iprop(slotFree (F := F) (c, q, 0) ∗ slotFree (F := F) (c, q, 1) ∗ slotFree (F := F) (c, q, 2))

theorem allFree_eq (c : Dev nD) : allFree (F := F) c = bigSep Finset.univ fun p : Fin 4 × Fin 3 => slotFree (F := F) (c, p.1, p.2) := by
  unfold allFree
  rw [bigSep_univ_prod]
  exact bigSep_congr fun q _ => (bigSep_three fun s : Fin 3 => slotFree (F := F) (c, q, s)).symm

/-- The buffer whole is its places. -/
theorem comm_split (c : Dev nD) : (∃ f, has (F := F) c cc0_scratch0 f) ⊢ (allFree (F := F) c : sProp 𝕄) := by
  rw [allFree_eq]
  iintro ⟨%f, H⟩
  have e : has (F := F) c cc0_scratch0 f = bigSep Finset.univ fun p : Fin 4 × Fin 3 => (((c : Thread nD τ).loc cc0_scratch0) ↦[slotSet p]{fullShare} f : sProp 𝕄) := by
    have h := pointsTo_biUnion (Ix := ℕ) (Name := ℕ) (U := UU) (Lvl := ℕ) (ℓ := (c : Thread nD τ).loc cc0_scratch0) (q := fullShare) (f := f)
      Finset.univ slotSet (fun p _ p' _ h => slotSet_disjoint p p' h)
    rw [show Finset.univ.biUnion slotSet = (Finset.univ : Finset (Idx ((c : Thread nD τ).loc cc0_scratch0))) from slotSet_cover] at h
    exact h
  ihave H := (Entails.of_eq e) $$ H
  have hm : (bigSep Finset.univ fun p : Fin 4 × Fin 3 => (((c : Thread nD τ).loc cc0_scratch0) ↦[slotSet p]{fullShare} f : sProp 𝕄))
      ⊢ bigSep Finset.univ fun p : Fin 4 × Fin 3 => slotFree (F := F) (c, p.1, p.2) :=
    bigSep_mono fun p _ => show (((c : Thread nD τ).loc cc0_scratch0) ↦[slotSet p]{fullShare} f : sProp 𝕄)
        ⊢ iprop(∃ g, ((c : Thread nD τ).loc cc0_scratch0) ↦[slotSet p]{fullShare} g) from by
      iintro H; iexists f; iexact H
  iapply hm $$ H

theorem slot_choose (c : Dev nD) : (bigSep Finset.univ fun p : Fin 4 × Fin 3 => slotFree (F := F) (c, p.1, p.2))
    ⊢ (iprop(∃ fs : Fin 4 × Fin 3 → Buf (Elt F) ((c : Thread nD τ).loc cc0_scratch0),
        bigSep Finset.univ fun p => ((c : Thread nD τ).loc cc0_scratch0) ↦[slotSet p]{fullShare} fs p) : sProp 𝕄) := by
  exact bigSep_exists_pi (Y := fun _ => Buf (Elt F) ((c : Thread nD τ).loc cc0_scratch0)) Finset.univ
    (fun p (f : Buf (Elt F) ((c : Thread nD τ).loc cc0_scratch0)) => (((c : Thread nD τ).loc cc0_scratch0) ↦[slotSet p]{fullShare} f : sProp 𝕄))

theorem comm_join (c : Dev nD) : (allFree (F := F) c : sProp 𝕄) ⊢ ∃ f, has (F := F) c cc0_scratch0 f := by
  rw [allFree_eq]
  iintro H
  ihave H := (slot_choose c) $$ H
  icases H with ⟨%fs, H⟩
  ihave H := (pointsTo_biUnion_join Finset.univ slotSet fs (fs (0, 0)) (fun p _ p' _ h => slotSet_disjoint p p' h)) $$ H
  icases H with ⟨%g, -, H⟩
  iexists g
  rw [slotSet_cover]
  iexact H

/-! ## The result -/

variable (X : Dev nD → Vec F S512x8192 .bf16) (W : Dev nD → Vec F S8192x256 .bf16)

theorem rowInb (i : S8192x256.Idx) (a : Fin 2) : (![(i 0).val % 128, (i 1).val] : Fin 2 → ℕ) a < S128x256.size a := by
  have h1 : (i 1).val < 256 := (i 1).isLt
  fin_cases a
  · exact Nat.mod_lt _ (by decide)
  · exact h1
/-- Whose block an element of the result comes of, which stream brought it, and where in the stream's rows it is. -/
def orgAt (i : S8192x256.Idx) : Dev nD := ⟨(i 0).val / 512, by have : (i 0).val < 8192 := (i 0).isLt; show _ < 16; omega⟩
def strAt (i : S8192x256.Idx) : Fin 4 := ⟨(i 0).val / 128 % 4, Nat.mod_lt _ (by decide)⟩
def rowAt (i : S8192x256.Idx) : S128x256.Idx := fun a => ⟨_, rowInb i a⟩

theorem emb_at (i : S8192x256.Idx) : (outRect (strAt i) (orgAt i)).emb (rowAt i) = i := by
  funext a
  refine Fin.ext ?_
  fin_cases a
  · show (i 0).val / 512 * 512 + (i 0).val / 128 % 4 * 128 + 1 * ((i 0).val % 128) = (i 0).val
    omega
  · show 0 + 1 * (i 1).val = (i 1).val
    omega

/-- The result. -/
def outFin (c : Dev nD) : Vec F S8192x256 .f32 := fun i => chunk X W c (strAt i) (orgAt i) (rowAt i)

/-- Once every landing is multiplied in, the buffer holds the result. -/
theorem outs_full (c : Dev nD) : outs X W c (fun _ => 16) ⊢ has c cc0_stg3_0 (outFin X W c) := by
  unfold outs
  iintro ⟨%f, %hf, H⟩
  have e : f = outFin X W c := by
    funext i
    obtain ⟨j, hj, ho⟩ := org_surj (strAt i) c (orgAt i)
    have h := congrFun (hf (strAt i) j hj) (rowAt i)
    rw [ho] at h
    have h' : f ((outRect (strAt i) (orgAt i)).emb (rowAt i)) = chunk X W c (strAt i) (orgAt i) (rowAt i) := h
    rw [emb_at] at h'
    exact h'
  rw [← e]
  iexact H

end Cert.Proof.AG

end
-- ==== Proof.Region.lean ====
/- The kernel region: what it finds, what it leaves, its proof data, and its cells opened. -/
module

public import proofs.«01_k».proof.Proof.Slots

@[expose] public section

set_option maxRecDepth 10000

noncomputable section

namespace Cert.Proof.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

/-! ## The 28 semaphores of a device, stream by stream -/

/-- The semaphore a stream's `i`th cell is: its three send cells, its three landing cells, its credit cell. -/
def ixOf (p : Fin 4 × Fin 7) : Fin 28 :=
  if h : p.2.val < 3 then sendIx p.1 ⟨p.2.val, h⟩ else if h' : p.2.val < 6 then recvIx p.1 ⟨p.2.val - 3, by omega⟩ else creditIx p.1
theorem ixOf_bij : Function.Bijective ixOf := by decide +kernel
def ixEquiv : Fin 4 × Fin 7 ≃ Fin 28 := Equiv.ofBijective ixOf ixOf_bij

/-- A holding of every cell is one of each stream's cells. -/
theorem by_stream {M : Type} [URA M] (Φ : Fin 28 → sProp M) :
    bigSep Finset.univ Φ = bigSep Finset.univ fun q : Fin 4 =>
      iprop(Φ (sendIx q 0) ∗ Φ (sendIx q 1) ∗ Φ (sendIx q 2) ∗ Φ (recvIx q 0) ∗ Φ (recvIx q 1) ∗ Φ (recvIx q 2) ∗ Φ (creditIx q)) := by
  rw [bigSep_univ_equiv ixEquiv, bigSep_univ_prod]
  exact bigSep_congr fun q _ => bigSep_univ_eq_bigSepL [(0 : Fin 7), 1, 2, 3, 4, 5, 6] (by decide) (by decide) _

/-! ## What a device holds when it enters the region, and when it leaves -/

variable (X : Dev nD → Vec F S512x8192 .bf16) (W : Dev nD → Vec F S8192x256 .bf16)

/-- A stream's share of the launch: credits for its landings, turns to transfer, turns to give credit. -/
def kit (c : Dev nD) (q : Fin 4) : sProp 𝕄 :=
  iprop(lands c q 0 ∗ toks0 c q ∗ (bigSep (Finset.Ico 0 13) fun r => cred (tallyAt (creditCell c q) (2 * r + 3) 1))
    ∗ (readerAt EK (c, q, 0) 0 ∗ readerAt EK (c, q, 1) 0 ∗ readerAt EK (c, q, 2) 0)
    ∗ (bigSep (Finset.Ico 0 13) fun r => dutyTok ER (creditCell (src q c) q) 0 r))
/-- A stream's cells, open. -/
def open7 (c : Dev nD) (q : Fin 4) : sProp 𝕄 :=
  iprop(curs (sendCell c q 0) 0 ∗ curs (sendCell c q 1) 0 ∗ curs (sendCell c q 2) 0
    ∗ curs (recvCell c q 0) 0 ∗ curs (recvCell c q 1) 0 ∗ curs (recvCell c q 2) 0 ∗ curs (creditCell c q) 0)
/-- What a device takes into the region, but for its cells. -/
def start (c : Dev nD) : sProp 𝕄 := iprop(∃ K ιs, Inv X K ιs ∗ barKit (F := F) c ∗ bigSep Finset.univ fun q : Fin 4 => kit (F := F) c q)
/-- With its cells' openings. -/
def Tk (c : Dev nD) : sProp 𝕄 := iprop(start X c ∗ bigSep Finset.univ fun k : Fin 28 => openTok ER (kcell (c, k)))
/-- With its cells open. -/
def Xk (c : Dev nD) : sProp 𝕄 := iprop(start X c ∗ bigSep Finset.univ fun q : Fin 4 => open7 (F := F) c q)
/-- The scratch buffers. -/
def scratch (c : Dev nD) : sProp 𝕄 := iprop((∃ f, has (F := F) c cc0_scratch0 f) ∗ ∃ f, has (F := F) c cc0_scratch1 f)

/-- Every cell of a device opens from its counter at zero. -/
theorem open_cells (c : Dev nD) (K : GSem nD τ sig → ℕ) (ιs : Key → ℕ) :
    iprop(Inv X K ιs ∗ bigSep Finset.univ fun k : Fin 28 => iprop(openTok ER (kcell (c, k)) ∗ semVal (kcell (c, k)) 0))
      ⊢ (|={Set.univ}=> bigSep Finset.univ fun q : Fin 4 => open7 (F := F) c q : sProp 𝕄) := by
  have h1 (k : Fin 28) : iprop(Inv X K ιs ∗ (openTok ER (kcell (c, k)) ∗ semVal (kcell (c, k)) 0)) ⊢ (|={Set.univ}=> curs (kcell (c, k)) 0 : sProp 𝕄) := by
    unfold curs
    iintro ⟨#HI, Ho, Hv⟩
    ihave #Hc := (Inv_cell (F := F) X K ιs (c, k)) $$ HI
    iapply (Rounds.cell_open ER (ringRd X) (g := kcell (c, k)) (Set.mem_univ (K (kcell (c, k)))))
    isplitr; · iexact Hc
    isplitl [Ho] <;> iassumption
  have h2 : (bigSep Finset.univ fun k : Fin 28 => (curs (kcell (c, k)) 0 : sProp 𝕄)) ⊢ bigSep Finset.univ fun q : Fin 4 => open7 (F := F) c q := by
    rw [by_stream]
    refine bigSep_mono fun q _ => ?_
    unfold open7 kcell
    rw [osem_send, osem_send, osem_send, osem_recv, osem_recv, osem_recv, osem_credit]
    exact BI.Entails.refl _
  have h3 : iprop(Inv X K ιs ∗ bigSep Finset.univ fun k : Fin 28 => iprop(openTok ER (kcell (c, k)) ∗ semVal (kcell (c, k)) 0))
      ⊢ (bigSep Finset.univ (fun k : Fin 28 => (iprop(|={Set.univ}=> curs (kcell (c, k)) 0) : sProp 𝕄)) : sProp 𝕄) :=
    bigSep_with_persistent (R := Inv X K ιs) fun k _ => h1 k
  iintro H
  ihave H := h3 $$ H
  imod (bigSep_fupd _ _) $$ H with H
  imodintro
  iapply h2 $$ H

theorem hopen (c : Dev nD) : iprop(Tk X c ∗ Pipeline.ownSems0 osem c ∗ levAts L lv) ⊢ (|={Set.univ}=> Xk X c : sProp 𝕄) := by
  unfold Tk Xk start Pipeline.ownSems0
  iintro ⟨⟨⟨%K, %ιs, #HI, Hb, Hk⟩, Ho⟩, Hv, -⟩
  imod (open_cells X c K ιs) $$ [Ho Hv] with Hc
  · isplitr; · iexact HI
    rw [bigSep_sep']
    isplitl [Ho] <;> iassumption
  imodintro
  isplitr [Hc]
  · iexists K; iexists ιs
    isplitr; · iexact HI
    isplitl [Hb] <;> iassumption
  iexact Hc

/-- What a device has after the body: its counters at zero, its scratch buffers. -/
def Yall (c : Dev nD) : sProp 𝕄 := iprop(semVal (barCell c) 0 ∗ Pipeline.ownSems0 osem c ∗ scratch (F := F) c)

theorem raw_of (c : Dev nD) (q : Fin 4) :
    iprop(kit (F := F) c q ∗ open7 (F := F) c q ∗ (slotFree (F := F) (c, q, 0) ∗ slotFree (F := F) (c, q, 1) ∗ slotFree (F := F) (c, q, 2)))
      ⊢ (iprop(raw (F := F) c q ∗ slotFree (F := F) (c, q, 0)) : sProp 𝕄) := by
  unfold kit open7 raw
  iintro ⟨⟨Hl, Ht, Hc, Hr, Hd⟩, ⟨Hs0, Hs1, Hs2, Hr0, Hr1, Hr2, Hcr⟩, Hf0, Hf1, Hf2⟩
  isplitr [Hf0]
  · isplitl [Hs0 Hs1 Hs2]
    · isplitl [Hs0]; · iexact Hs0
      isplitl [Hs1] <;> iassumption
    isplitl [Hr0 Hr1 Hr2]
    · isplitl [Hr0]; · iexact Hr0
      isplitl [Hr1] <;> iassumption
    isplitl [Hcr]; · iexact Hcr
    isplitl [Hl]; · iexact Hl
    isplitl [Ht]; · iexact Ht
    isplitl [Hc]; · iexact Hc
    isplitl [Hr]; · iexact Hr
    isplitl [Hd]; · iexact Hd
    isplitl [Hf1] <;> iassumption
  iexact Hf0

/-- A closed stream is its counters and its places. -/
theorem closed_parts (c : Dev nD) (q : Fin 4) :
    closed (F := F) c q ⊢ (iprop((semVal (kcell (c, sendIx q 0)) 0 ∗ semVal (kcell (c, sendIx q 1)) 0 ∗ semVal (kcell (c, sendIx q 2)) 0
        ∗ semVal (kcell (c, recvIx q 0)) 0 ∗ semVal (kcell (c, recvIx q 1)) 0 ∗ semVal (kcell (c, recvIx q 2)) 0 ∗ semVal (kcell (c, creditIx q)) 0)
      ∗ (slotFree (F := F) (c, q, 0) ∗ slotFree (F := F) (c, q, 1) ∗ slotFree (F := F) (c, q, 2))) : sProp 𝕄) := by
  unfold closed kcell
  rw [osem_send, osem_send, osem_send, osem_recv, osem_recv, osem_recv, osem_credit]
  iintro ⟨⟨Hc, ⟨Hs0, Hs1, Hs2⟩, Hr0, Hr1, Hr2⟩, Hf⟩
  isplitr [Hf]
  · isplitl [Hs0]; · iexact Hs0
    isplitl [Hs1]; · iexact Hs1
    isplitl [Hs2]; · iexact Hs2
    isplitl [Hr0]; · iexact Hr0
    isplitl [Hr1]; · iexact Hr1
    isplitl [Hr2]; · iexact Hr2
    iexact Hc
  iexact Hf

theorem closed_all (c : Dev nD) :
    (bigSep Finset.univ fun q : Fin 4 => closed (F := F) c q) ⊢ (iprop(Pipeline.ownSems0 osem c ∗ allFree (F := F) c) : sProp 𝕄) := by
  unfold Pipeline.ownSems0 allFree
  rw [by_stream, ← bigSep_sep']
  exact bigSep_mono fun q _ => closed_parts c q

/-- The whole body, from what a device takes into the region to what it leaves. -/
theorem body_region (c : Dev nD) :
    iprop(Xk X c ∗ scratch (F := F) c ∗ ow c (O₀ c) ∗ tabAt (F := F) c ∗ xAt X c ∗ wAt W c ∗ ∃ f, has (F := F) c cc0_stg3_0 f)
      ⊢ runs c (cc0_body tabM (Memref.isWhole_whole _) xM (Memref.isWhole_whole _) wM (Memref.isWhole_whole _) outM (Memref.isWhole_whole _)
          commM (Memref.isWhole_whole _) wbM (Memref.isWhole_whole _) cc0_scratch2 cc0_scratch3 cc0_scratch4)
        (fun _ => (iprop(Yall (F := F) c ∗ ow c 0 ∗ tabAt (F := F) c ∗ xAt X c ∗ wAt W c ∗ has c cc0_stg3_0 (outFin X W c)) : sProp (MT nD τ sig ℕ (Elt F) ℕ UU ℕ))) := by
  unfold Xk start scratch
  iintro ⟨⟨⟨%K, %ιs, #HI, Hb, Hk⟩, Hc⟩, ⟨Hs, Hw⟩, HO, Ht, Hx, Hwt, Ho⟩
  ihave Hf := (comm_split c) $$ Hs
  unfold allFree
  have hraw : iprop((bigSep Finset.univ fun q : Fin 4 => kit (F := F) c q) ∗ (bigSep Finset.univ fun q : Fin 4 => open7 (F := F) c q)
      ∗ (bigSep Finset.univ fun q : Fin 4 => iprop(slotFree (F := F) (c, q, 0) ∗ slotFree (F := F) (c, q, 1) ∗ slotFree (F := F) (c, q, 2))))
        ⊢ (iprop((bigSep Finset.univ fun q : Fin 4 => raw (F := F) c q) ∗ bigSep Finset.univ fun q : Fin 4 => slotFree (F := F) (c, q, 0)) : sProp 𝕄) := by
    rw [← bigSep_sep', ← bigSep_sep', ← bigSep_sep']
    exact bigSep_mono fun q _ => raw_of c q
  ihave Hr := hraw $$ [Hk Hc Hf]
  · isplitl [Hk]; · iexact Hk
    isplitl [Hc] <;> iassumption
  rw [bigSep_four, bigSep_four]
  icases Hr with ⟨Hr, Hf0⟩
  unfold runs
  iapply (wp_wand_r frame (wpE (defs₀ (F := F)) 𝒱₀ (c : Thread nD τ) none) Set.univ (Q := fun _ => ending X W c))
  isplitl [HO Hb Hr Hf0 Ht Hx Hwt Hw Ho]
  · iapply (body_all X W K ιs c)
    unfold opening
    isplitr; · iexact HI
    isplitl [HO]; · iexact HO
    isplitl [Hb]; · iexact Hb
    isplitl [Hr]; · iexact Hr
    isplitl [Hf0]; · iexact Hf0
    isplitl [Ht]; · iexact Ht
    isplitl [Hx]; · iexact Hx
    isplitl [Hwt Hw]; · isplitl [Hwt] <;> iassumption
    iexact Ho
  unfold ending Yall scratch
  iintro %_ ⟨HO, Hz, Hc, Ho, Ht, Hx, Hw, Hb⟩
  ihave Hc := (Entails.of_eq (bigSep_four fun q : Fin 4 => closed (F := F) c q).symm) $$ Hc
  ihave Hc := (closed_all c) $$ Hc
  icases Hc with ⟨Hv, Hf⟩
  ihave Hf := (comm_join c) $$ Hf
  ihave Ho := (outs_full X W c) $$ Ho
  isplitl [Hz Hv Hf Hb]
  · isplitl [Hz]; · iexact Hz
    isplitl [Hv]; · iexact Hv
    isplitl [Hf]; · iexact Hf
    unfold wbAt
    iexists _; iexact Hb
  isplitl [HO]; · iexact HO
  isplitl [Ht]; · iexact Ht
  isplitl [Hx]; · iexact Hx
  isplitl [Hw]; · iexact Hw
  iexact Ho

end Cert.Proof.AG

end
-- ==== Proof.Segs.lean ====
/- The program as its two segments: the table made, the kernel region run. -/
module

public import proofs.«01_k».proof.Proof.Region
public import proofs.«01_k».proof.Proof.Gen.KernelIdeal.Frame
public import Idealize.ShloMosaic.Lib.Pipeline.RegionTalk

@[expose] public section

set_option maxRecDepth 10000

noncomputable section

namespace Cert.Proof.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## The contents -/

/-- The blocks of the two arguments, device by device. -/
abbrev Xm (c : Dev nD) : Vec F S512x8192 .bf16 := m ((c : Thread nD τ).loc main_arg0)
abbrev Wm (c : Dev nD) : Vec F S8192x256 .bf16 := m ((c : Thread nD τ).loc main_arg1)
/-- The result on each device. -/
abbrev Om (c : Dev nD) : Vec F S8192x256 .f32 := outFin (Xm m) (Wm m) c

/-- A device's buffers at launch, -/
abbrev V₀ (c : Dev nD) : Valuation τ sig (Elt F) := fun b => m (c, b)
/-- with the table made, -/
abbrev V₁ (c : Dev nD) : Valuation τ sig (Elt F) := StableHlo.after hostOps0 (V₀ m c)
/-- and with the result computed. -/
def V₂ (c : Dev nD) : Valuation τ sig (Elt F) := Function.update (V₁ m c) (Proc.devRef .tc main_v1) (Om m c)

theorem V₁_c (c : Dev nD) : V₁ m c (Proc.devRef .tc main_c) = (tbl (F := F) : Vec F S4x16 .i32) := by
  show StableHlo.after hostOps0 (V₀ m c) (Proc.devRef .tc main_c) = _
  rw [StableHlo.after_cons, StableHlo.after_nil, StableHlo.nullary_result]
  rfl
theorem V₁_x (c : Dev nD) : V₁ m c (Proc.devRef .tc main_arg0) = Xm m c := V_main_arg0 m c
theorem V₁_w (c : Dev nD) : V₁ m c (Proc.devRef .tc main_arg1) = Wm m c := V_main_arg1 m c
theorem V₂_c (c : Dev nD) : V₂ m c (Proc.devRef .tc main_c) = V₁ m c (Proc.devRef .tc main_c) := Function.update_of_ne (by decide) _ _
theorem V₂_x (c : Dev nD) : V₂ m c (Proc.devRef .tc main_arg0) = V₁ m c (Proc.devRef .tc main_arg0) := Function.update_of_ne (by decide) _ _
theorem V₂_w (c : Dev nD) : V₂ m c (Proc.devRef .tc main_arg1) = V₁ m c (Proc.devRef .tc main_arg1) := Function.update_of_ne (by decide) _ _
theorem V₂_o (c : Dev nD) : V₂ m c (Proc.devRef .tc main_v1) = Om m c := Function.update_self _ _ _

/-! ## The proof data -/

abbrev adm : (p : Fin 1) → (pcfgs (F := F) p).Adm := fun p => (cfgs p).toPCfg_adm

def pdats (_ : Fin 1) (c : Dev nD) : Dat τ (Elt F) ℕ ℕ UU ℕ (Pipeline.pin (pcfgs (F := F)) adm 0) c where
  A w := V₁ m c (Proc.devRef .tc (Pipeline.arrRef spec0 w))
  after w _ := match w with
    | ⟨0, _⟩ => tbl (F := F)
    | ⟨1, _⟩ => Xm m c
    | ⟨2, _⟩ => Wm m c
    | ⟨3, _⟩ => Om m c
  Φ t := if t.val = 0 then iprop(Xk (Xm m) c ∗ scratch (F := F) c ∗ ∃ r, prngReg c r) else iprop(Yall (F := F) c ∗ ∃ r, prngReg c r)
  q _ := fullShare
  owed t := if t.val = 0 then O₀ c else 0

theorem share_eq (c : Dev nD) (w : Fin 4) : (pdats m 0 c).share w = fullShare := by unfold Dat.share; split <;> rfl
theorem owed_zero (c : Dev nD) : (pdats m 0 c).owed 0 = O₀ c := by
  show (if ((0 : Fin (cfg0.N + 1)).val = 0) then O₀ c else 0) = O₀ c; exact if_pos rfl
theorem owed_first (c : Dev nD) : (pdats m 0 c).owed t0_0.castSucc = O₀ c := by
  show (if (t0_0.castSucc : Fin (cfg0.N + 1)).val = 0 then O₀ c else 0) = O₀ c; exact if_pos rfl
theorem owed_last (c : Dev nD) : (pdats m 0 c).owed (Fin.last _) = 0 := by
  show (if (Fin.last cfg0.N).val = 0 then O₀ c else 0) = 0
  rw [Fin.val_last, if_neg (by rw [show cfg0.N = 1 from N_0]; decide)]
theorem owed_next (c : Dev nD) : (pdats m 0 c).owed t0_0.succ = 0 := by
  show (if (t0_0.succ : Fin (cfg0.N + 1)).val = 0 then O₀ c else 0) = 0
  exact if_neg (by rw [Fin.val_succ]; exact Nat.succ_ne_zero _)

theorem owesAt_intro (c : Dev nD) (t : Fin (cfg0.N + 1)) (O : CellTallies nD τ sig ℕ) (h0 : (pdats m 0 c).owed t = O) :
    (ow c O : sProp 𝕄) ⊢ ((pdats m 0 c).owesAt 0 t : sProp 𝕄) := by
  unfold ow Dat.owesAt Pipeline.owesWithin Dat.bound
  rw [h0, show (pdats m 0 c).recorded t = Set.univ from rfl]
  iintro ⟨%W, HO⟩
  iexists W
  isplitr; · ipureintro; exact fun _ _ => Or.inl trivial
  iexact HO
theorem owesAt_elim (c : Dev nD) (t : Fin (cfg0.N + 1)) (O : CellTallies nD τ sig ℕ) (h0 : (pdats m 0 c).owed t = O) :
    ((pdats m 0 c).owesAt 0 t : sProp 𝕄) ⊢ (ow c O : sProp 𝕄) := by
  unfold ow Dat.owesAt Pipeline.owesWithin
  rw [h0]
  iintro ⟨%W, -, HO⟩
  iexists W
  iexact HO

/-! ## The windows' blocks are whole arrays -/

theorem blk_c (t : Fin cfg0.N) (f : cc0_stg0_0.ty.Contents (Elt F)) : (win0_0.blk t).view.read (Elt F) f = f := by
  exact Memref.read_access_unit_zero (Elt F) main_c (funext fun a => Nat.zero_mul _) _ f
theorem blk_x (t : Fin cfg0.N) (f : cc0_stg1_0.ty.Contents (Elt F)) : (win0_1.blk t).view.read (Elt F) f = f := by
  exact Memref.read_access_unit_zero (Elt F) main_arg0 (funext fun a => Nat.zero_mul _) _ f
theorem blk_w (t : Fin cfg0.N) (f : cc0_stg2_0.ty.Contents (Elt F)) : (win0_2.blk t).view.read (Elt F) f = f := by
  exact Memref.read_access_unit_zero (Elt F) main_arg1 (funext fun a => Nat.zero_mul _) _ f
theorem blk_o (t : Fin cfg0.N) (f g : cc0_stg3_0.ty.Contents (Elt F)) : (win0_3.blk t).view.write (Elt F) f g Finset.univ = g := by
  exact Memref.write_access_unit_zero_univ (Elt F) main_v1 (funext fun a => Nat.zero_mul _) _ f g

theorem before_c (c : Dev nD) (d) : (pdats m 0 c).before (0 : Fin 4) t0_0 d = tbl (F := F) := by
  unfold Dat.before
  rw [if_pos (fetch0_0 t0_0)]
  exact (blk_c t0_0 _).trans (V₁_c m c)
theorem before_x (c : Dev nD) (d) : (pdats m 0 c).before (1 : Fin 4) t0_0 d = Xm m c := by
  unfold Dat.before
  rw [if_pos (fetch0_1 t0_0)]
  exact (blk_x t0_0 _).trans (V₁_x m c)
theorem before_w (c : Dev nD) (d) : (pdats m 0 c).before (2 : Fin 4) t0_0 d = Wm m c := by
  unfold Dat.before
  rw [if_pos (fetch0_2 t0_0)]
  exact (blk_w t0_0 _).trans (V₁_w m c)

theorem final_o (c : Dev nD) : (pdats m 0 c).arrAt (3 : Fin 4) cfg0.N = Om m c := by
  rw [show cfg0.N = 0 + 1 from N_0]
  unfold Dat.arrAt
  rw [dif_pos (show 0 < cfg0.N by rw [show cfg0.N = 1 from N_0]; decide)]
  rw [if_pos (flush0_3 _)]
  exact blk_o _ _ _

/-! ## The body's obligation -/

theorem Φ_first (c : Dev nD) : (pdats m 0 c).Φ t0_0.castSucc = (iprop(Xk (Xm m) c ∗ scratch (F := F) c ∗ ∃ r, prngReg c r) : sProp 𝕄) := rfl
theorem Φ_next (c : Dev nD) : (pdats m 0 c).Φ t0_0.succ = (iprop(Yall (F := F) c ∗ ∃ r, prngReg c r) : sProp 𝕄) := rfl

set_option maxHeartbeats 4000000 in
/-- The body meets the pipeline's obligation at its one point. -/
theorem body_ok (c : Dev nD) : BodyObligation (pdats m 0 c) defs₀ 𝒱₀ (0 : ℕ) Set.univ := fun t => by
  obtain rfl := fin_N0 t
  refine (show _ ⊢ _ from ?_)
  rw [bigSep_W0, bigSep_W0, Φ_first, Φ_next]
  simp only [owns_whole_eq]
  show iprop((Xk (Xm m) c ∗ scratch (F := F) c ∗ ∃ r, prngReg c r) ∗ (pdats m 0 c).owesAt 0 t0_0.castSucc
      ∗ (∃ d, ∃ f, ⌜f = (pdats m 0 c).before (0 : Fin 4) t0_0 d⌝ ∗ has c cc0_stg0_0 f)
      ∗ (∃ d, ∃ f, ⌜f = (pdats m 0 c).before (1 : Fin 4) t0_0 d⌝ ∗ has c cc0_stg1_0 f)
      ∗ (∃ d, ∃ f, ⌜f = (pdats m 0 c).before (2 : Fin 4) t0_0 d⌝ ∗ has c cc0_stg2_0 f)
      ∗ (∃ d, ∃ f, ⌜f = (pdats m 0 c).before (3 : Fin 4) t0_0 d⌝ ∗ has c cc0_stg3_0 f))
    ⊢ runs c (cc0_body tabM (Memref.isWhole_whole _) xM (Memref.isWhole_whole _) wM (Memref.isWhole_whole _) outM (Memref.isWhole_whole _)
        commM (Memref.isWhole_whole _) wbM (Memref.isWhole_whole _) cc0_scratch2 cc0_scratch3 cc0_scratch4)
      (fun _ => (iprop((Yall (F := F) c ∗ ∃ r, prngReg c r) ∗ (pdats m 0 c).owesAt 0 t0_0.succ
        ∗ (∃ f, ⌜f = tbl (F := F)⌝ ∗ has c cc0_stg0_0 f)
        ∗ (∃ f, ⌜f = Xm m c⌝ ∗ has c cc0_stg1_0 f)
        ∗ (∃ f, ⌜f = Wm m c⌝ ∗ has c cc0_stg2_0 f)
        ∗ (∃ f, ⌜f = Om m c⌝ ∗ has c cc0_stg3_0 f)) : sProp (MT nD τ sig ℕ (Elt F) ℕ UU ℕ)))
  iintro ⟨⟨HX, Hs, Hp⟩, HO, ⟨%d0, %g0, %h0, H0⟩, ⟨%d1, %g1, %h1, H1⟩, ⟨%d2, %g2, %h2, H2⟩, ⟨%d3, %g3, -, H3⟩⟩
  obtain rfl := h0.trans (before_c m c d0)
  obtain rfl := h1.trans (before_x m c d1)
  obtain rfl := h2.trans (before_w m c d2)
  ihave HO' := (owesAt_elim m c _ (O₀ c) (owed_first m c)) $$ HO
  iapply (wp_wand_r frame (wpE (defs₀ (F := F)) 𝒱₀ (c : Thread nD τ) none) Set.univ
    (Q := fun _ => iprop(Yall (F := F) c ∗ ow c 0 ∗ has c cc0_stg0_0 (tbl (F := F)) ∗ has c cc0_stg1_0 (Xm m c) ∗ has c cc0_stg2_0 (Wm m c) ∗ has c cc0_stg3_0 (outFin (Xm m) (Wm m) c))))
  isplitl [HX Hs HO' H0 H1 H2 H3]
  · iapply (show iprop(Xk (Xm m) c ∗ scratch (F := F) c ∗ ow c (O₀ c) ∗ has c cc0_stg0_0 (tbl (F := F)) ∗ has c cc0_stg1_0 (Xm m c) ∗ has c cc0_stg2_0 (Wm m c) ∗ ∃ f, has (F := F) c cc0_stg3_0 f) ⊢ _
      from body_region (Xm m) (Wm m) c)
    isplitl [HX]; · iexact HX
    isplitl [Hs]; · iexact Hs
    isplitl [HO']; · iexact HO'
    isplitl [H0]; · iexact H0
    isplitl [H1]; · iexact H1
    isplitl [H2]; · iexact H2
    iexists g3; iexact H3
  iintro %_ ⟨HY, HO, H0, H1, H2, H3⟩
  isplitl [HY Hp]
  · isplitl [HY]; · iexact HY
    iexact Hp
  isplitl [HO]; · iapply (owesAt_intro m c t0_0.succ 0 (owed_next m c)); iexact HO
  isplitl [H0]
  · iexists _; isplitr
    · ipureintro; rfl
    · iexact H0
  isplitl [H1]
  · iexists _; isplitr
    · ipureintro; rfl
    · iexact H1
  isplitl [H2]
  · iexists _; isplitr
    · ipureintro; rfl
    · iexact H2
  iexists _; isplitr
  · ipureintro; rfl
  · iexact H3

/-! ## The region and the host code before it -/

abbrev bufs : Finset (DevRef τ sig) := Pipeline.ucRefs τ sig
theorem bufs_eq : Pipeline.arrRefs (τ := τ) (pcfgs (F := F) 0).spec = bufs := by
  show Pipeline.arrRefs (τ := τ) spec0 = bufs
  decide

def Yk (c : Dev nD) : sProp 𝕄 := semVal (barCell c) 0

theorem hin (c : Dev nD) : iprop(Pipeline.scopedRest (Pipeline.pin (pcfgs (F := F)) adm 0).spec c ∗ (∃ r, prngReg c r) ∗ StableHlo.held (c.tc : Thread nD τ) ∅ (V₁ m c) ∗ Xk (Xm m) c)
    ⊢ (pdats m 0 c).Φ 0 := by
  rw [show (pdats m 0 c).Φ 0 = (iprop(Xk (Xm m) c ∗ scratch (F := F) c ∗ ∃ r, prngReg c r) : sProp 𝕄) from rfl,
    show (Pipeline.scopedRest (Pipeline.pin (pcfgs (F := F)) adm 0).spec c : sProp 𝕄) = scratch (F := F) c from scopedRest0_eq c]
  iintro ⟨Hs, Hp, -, HX⟩
  isplitl [HX]; · iexact HX
  isplitl [Hs]; · iexact Hs
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c) ∗ Pipeline.ownSems0 osem c ∗ Yk (F := F) c) := by
  rw [show (pdats m 0 c).Φ (Fin.last _) = (iprop(Yall (F := F) c ∗ ∃ r, prngReg c r) : sProp 𝕄) from rfl,
    show (Pipeline.scopedRest (Pipeline.pin (pcfgs (F := F)) adm 0).spec c : sProp 𝕄) = scratch (F := F) c from scopedRest0_eq c]
  unfold Yall Yk StableHlo.held
  rw [BI.bigSep_empty]
  iintro ⟨⟨Hb, Ho, Hs⟩, Hp⟩
  isplitl [Hs]; · iexact Hs
  isplitl [Hp]; · iexact Hp
  isplitr; · iempintro
  isplitl [Ho]; · iexact Ho
  iexact Hb

theorem arr_first (c : Dev nD) (w : Fin 4) : (pdats m 0 c).arrAt w 0 = V₁ m c (Proc.devRef .tc (Pipeline.arrRef spec0 w)) := rfl
theorem arr_last (c : Dev nD) (w : Fin 4) : (pdats m 0 c).arrAt w cfg0.N = V₂ m c (Proc.devRef .tc (Pipeline.arrRef spec0 w)) := by
  match w with
  | ⟨0, _⟩ => exact ((pdats m 0 c).arrAt_in (0 : Fin 4) rfl _).trans (V₂_c m c).symm
  | ⟨1, _⟩ => exact ((pdats m 0 c).arrAt_in (1 : Fin 4) rfl _).trans (V₂_x m c).symm
  | ⟨2, _⟩ => exact ((pdats m 0 c).arrAt_in (2 : Fin 4) rfl _).trans (V₂_w m c).symm
  | ⟨3, _⟩ => exact (final_o m c).trans (V₂_o m c).symm

theorem cutD (c : Dev nD) (t : Fin ((Pipeline.pin (pcfgs (F := F)) adm 0).N + 1)) (g : GSem nD τ sig) (i : ℕ) (h : 0 < (pdats m 0 c).owed t g i) :
    i ∈ L g ∧ (0 : ℕ) < lv g i := by
  rw [show (pdats m 0 c).owed t = if t.val = 0 then O₀ c else 0 from rfl] at h
  split at h
  · obtain ⟨h1, h2, h3⟩ := O₀_pos h
    exact ⟨by unfold L; rw [if_pos h1]; exact Finset.mem_range.mpr h2, h3⟩
  · exact absurd h (Nat.lt_irrefl 0)

local notation "ℝ𝕊" => Pipeline.RegionSeg (pcfgs (F := F)) adm (pdats m) (0 : ℕ) defs₀ 𝒱₀ L lv

set_option backward.isDefEq.respectTransparency.types false in
/-- The kernel region. -/
def reg : ℝ𝕊 0 :=
  Pipeline.RegionSeg.ofTalk (pcfgs (F := F)) adm (pdats m) (0 : ℕ) defs₀ 𝒱₀ L lv 0 osem (by decide : Pipeline.OwnSemFacts spec0 osem)
    ∅ ∅ (Finset.Subset.refl _) launch0.toP rfl (fun c => (body_ok m c).loose)
    (fun _ => 0) O₀ (fun c => (owed_zero m c).trans (zero_add _).symm) (owed_last m) (fun _ => rfl) (share_eq m)
    (V₁ m) (V₂ m) (fun _ b hb => absurd hb (by rw [Finset.sdiff_self]; exact Finset.notMem_empty b))
    (Tk (Xm m)) (Yk (F := F)) (Xk (Xm m)) (Yk (F := F)) (hopen (Xm m)) (hin m) (hout m)
    (fun c => by iintro H; imodintro; iexact H)
    (fun _ => 0)
    ⟨fun c w s => by rw [L_tc]; exact Finset.mem_range.mpr (by decide), fun _ _ _ => Nat.le_refl 0, fun c t g i h => cutD m c t g i h⟩
    (fun _ => iprop(emp))
    (arr_first m) (arr_last m)

/-- What rides along past the host code: the protocol's holdings, the generator's register, the debts. -/
def R (c : Dev nD) : sProp 𝕄 := iprop(Tk (Xm m) c ∗ (∃ r, prngReg c r) ∗ ow c (O₀ c))

local notation "ℍ" => Pipeline.HostSeg (Name := ℕ) (U := UU) (pcfgs (F := F)) defs₀ 𝒱₀ L lv

theorem ops_sub : ∀ op ∈ (hostOps0 : List (HloOp τ sig (Elt F))), op.bufs ⊆ bufs := fun op h => by
  have h' : op ∈ [(StableHlo.nullary main_c (fun i => lit0 (S4x16.rowMajor i)) : HloOp τ sig (Elt F))] := h
  simp only [List.mem_singleton] at h'; subst h'
  show ({Proc.devRef .tc main_c} : Finset (DevRef τ sig)) ⊆ bufs; decide

/-- The host code: the table made. -/
def seg0 : ℍ := Pipeline.HostSeg.ofOps _ _ _ _ _ bufs hostOps0 ops_sub (List.forall_iff_forall_mem.mp hostOps0_fresh) (V₀ m) (R m)

theorem reg_pre (c : Dev nD) : iprop(StableHlo.held (c : Thread nD τ) bufs (V₁ m c) ∗ R m c) ⊢ (reg m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) ∅ (V₁ m c) ∗ emp) ∗ Tk (Xm m) c ∗ ∃ Wd, owes (c : Thread nD τ) (0 + O₀ c) Wd)
  rw [bufs_eq, zero_add]
  unfold R ow
  iintro ⟨Hh, HT, Hp, HO⟩
  isplitl [Hh]; · iexact Hh
  isplitl [Hp]; · iexact Hp
  isplitr
  · unfold StableHlo.held
    rw [BI.bigSep_empty]
    isplitr <;> iempintro
  isplitl [HT]; · iexact HT
  iexact HO

theorem reg_post (c : Dev nD) : (reg m).post c
    ⊢ iprop((StableHlo.held (c : Thread nD τ) bufs (V₂ m c) ∗ semVal (barCell c) 0) ∗ ∃ W, owes (c : Thread nD τ) (0 : CellTallies nD τ sig ℕ) W) := by
  show iprop(StableHlo.held (c.tc : Thread nD τ) (Pipeline.arrRefs (τ := τ) (pcfgs (F := F) 0).spec) (V₂ m c) ∗ (∃ r, prngReg c r)
    ∗ (StableHlo.held (c.tc : Thread nD τ) ∅ (V₂ m c) ∗ emp) ∗ Yk (F := F) c ∗ ∃ Wd, owes (c : Thread nD τ) (0 : CellTallies nD τ sig ℕ) Wd) ⊢ _
  rw [bufs_eq]
  unfold Yk
  iintro ⟨Hh, -, -, Hb, HO⟩
  isplitr [HO]
  · isplitl [Hh]; · iexact Hh
    iexact Hb
  iexact HO

/-- @main as the list. -/
def segs : List (Pipeline.Seg (pcfgs (F := F)) adm (pdats m) (0 : ℕ) defs₀ 𝒱₀ L lv) := [.host (seg0 m), .region (reg m)]

theorem main_eq (c : Dev nD) : main (F := F) c = Pipeline.Seg.run (segs m) :=
  main_segs adm (pdats m) 0 𝒱₀ L lv (seg0 m) (reg m) rfl c

end Cert.Proof.AG

end
-- ==== Proof.Deal.lean ====
/- The launch: the permissions to wait that the debts make, and the turns dealt to the devices that take them. -/
module

public import proofs.«01_k».proof.Proof.Segs

@[expose] public section

set_option maxRecDepth 10000

noncomputable section

namespace Cert.Proof.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

/-! ## The permissions to wait -/

/-- What device `c` waits for in all: its two neighbours, its landings, its credits. -/
def due (c : Dev nD) : CellTallies nD τ sig ℕ :=
  tallyAt (barCell c) 1 2 + ∑ q : Fin 4, ((∑ j ∈ Finset.Ico 1 16, tallyAt (recvCell c q (sl j)) (2 * j) N)
    + ∑ r ∈ Finset.Ico 0 13, tallyAt (creditCell c q) (2 * r + 3) 1)

/-- The debts of all devices are the waits of all devices. -/
theorem sum_owed : (∑ d, O₀ d) = ∑ d, due d := by
  have h1 : (∑ d : Dev nD, Owe d (fun _ => 1) (fun _ => 0)) = ∑ d : Dev nD, ∑ q : Fin 4, ((∑ j ∈ Finset.Ico 1 16, tallyAt (recvCell d q (sl j)) (2 * j) N)
      + ∑ r ∈ Finset.Ico 0 13, (tallyAt (creditCell d q) (2 * r + 3) 1 : CellTallies nD τ sig ℕ)) := by
    unfold Owe oweQ
    rw [Finset.sum_comm, Finset.sum_comm (s := (Finset.univ : Finset (Dev nD)))]
    refine Finset.sum_congr rfl fun q _ => ?_
    rw [Finset.sum_add_distrib, Finset.sum_add_distrib]
    congr 1
    · exact Equiv.sum_comp (dstE q) fun d => ∑ j ∈ Finset.Ico 1 16, (tallyAt (recvCell d q (sl j)) (2 * j) N : CellTallies nD τ sig ℕ)
    · exact Equiv.sum_comp (srcE q) fun d => ∑ r ∈ Finset.Ico 0 13, (tallyAt (creditCell d q) (2 * r + 3) 1 : CellTallies nD τ sig ℕ)
  have h2 : (∑ d : Dev nD, (tallyAt (barCell (prv d)) 1 1 : CellTallies nD τ sig ℕ)) = ∑ d : Dev nD, tallyAt (barCell d) 1 1 :=
    Equiv.sum_comp (srcE 0) fun d => (tallyAt (barCell d) 1 1 : CellTallies nD τ sig ℕ)
  have h3 : (∑ d : Dev nD, (tallyAt (barCell (nxt d)) 1 1 : CellTallies nD τ sig ℕ)) = ∑ d : Dev nD, tallyAt (barCell d) 1 1 :=
    Equiv.sum_comp (dstE 0) fun d => (tallyAt (barCell d) 1 1 : CellTallies nD τ sig ℕ)
  unfold O₀ due
  rw [Finset.sum_add_distrib, Finset.sum_add_distrib, Finset.sum_add_distrib, h1, h2, h3, add_assoc, add_comm, ← Finset.sum_add_distrib]
  congr 1
  exact Finset.sum_congr rfl fun d _ => tallyAt_add _ _ _ _

theorem due_at (d : Dev nD) (g : GSem nD τ sig) (h : due d g ≠ 0) : g.1 = (d.tc : Thread nD τ) := by
  obtain ⟨i, hi⟩ := Finsupp.ne_iff.mp h
  have hi : 0 < due d g i := Nat.pos_of_ne_zero hi
  unfold due at hi
  rcases add_pos_or hi with h | h
  · obtain ⟨rfl, -⟩ := tally_pos h; rfl
  · obtain ⟨q, -, h⟩ := sum_pos h
    rcases add_pos_or h with h | h <;> obtain ⟨j, -, h⟩ := sum_pos h <;> obtain ⟨rfl, -⟩ := tally_pos h <;> rfl

theorem cred_two (T₁ T₂ : CellTallies nD τ sig ℕ) : (cred (T₁ + T₂) : sProp 𝕄) = iprop(cred T₁ ∗ cred T₂) :=
  BI.Entails.antisymm (cred_add _ _).1 (cred_add _ _).2

/-- The permissions a device is dealt. -/
theorem creds (c : Dev nD) : (Pipeline.launchCred O₀ c : sProp 𝕄)
    = iprop(cred (tallyAt (barCell c) 1 2) ∗ bigSep Finset.univ fun q : Fin 4 =>
        iprop(lands (F := F) c q 0 ∗ bigSep (Finset.Ico 0 13) fun r => cred (tallyAt (creditCell c q) (2 * r + 3) 1))) := by
  rw [Pipeline.launchCred_of_sum O₀ due sum_owed due_at c]
  unfold due lands
  rw [cred_two, Pipeline.cred_finsetSum]
  congr 1
  refine bigSep_congr fun q _ => ?_
  rw [cred_two, Pipeline.cred_finsetSum, Pipeline.cred_finsetSum]

/-! ## The turns -/

/-- A turn: at a device's barrier; to send, to land, to give credit on a stream. -/
abbrev Turn : Type := (Dev nD × Fin 2) ⊕ ((Dev nD × Fin 4 × Fin 15) ⊕ ((Dev nD × Fin 4 × Fin 15) ⊕ (Dev nD × Fin 4 × Fin 13)))
/-- The cell, round and duty of a turn. -/
def turnAt : Turn → GSem nD τ sig × ℕ × ℕ
  | .inl x => (barCell x.1, 0, x.2.val)
  | .inr (.inl x) => (sendCell x.1 x.2.1 (sl x.2.2.val), x.2.2.val / 3, 0)
  | .inr (.inr (.inl x)) => (recvCell x.1 x.2.1 (sl (x.2.2.val + 1)), x.2.2.val / 3, 0)
  | .inr (.inr (.inr x)) => (creditCell x.1 x.2.1, 0, x.2.2.val)

/-- The device, the kind of cell, the round and the duty of a turn. -/
def tag (t : GSem nD τ sig × ℕ × ℕ) : Dev nD × CellKind × ℕ × ℕ := (t.1.1.1, kindOf t.1.2, t.2.1, t.2.2)
theorem tag_bar (x : Dev nD × Fin 2) : tag (turnAt (.inl x)) = (x.1, .bar, 0, x.2.val) := rfl
theorem tag_send (x : Dev nD × Fin 4 × Fin 15) : tag (turnAt (.inr (.inl x))) = (x.1, .send x.2.1 (sl x.2.2.val), x.2.2.val / 3, 0) := by
  unfold tag turnAt; rw [kind_send]
theorem tag_recv (x : Dev nD × Fin 4 × Fin 15) : tag (turnAt (.inr (.inr (.inl x)))) = (x.1, .recv x.2.1 (sl (x.2.2.val + 1)), x.2.2.val / 3, 0) := by
  unfold tag turnAt; rw [kind_recv]
theorem tag_credit (x : Dev nD × Fin 4 × Fin 13) : tag (turnAt (.inr (.inr (.inr x)))) = (x.1, .credit x.2.1, 0, x.2.2.val) := by
  unfold tag turnAt; rw [kind_credit]

theorem turnAt_inj : Function.Injective turnAt := by
  intro a b h
  have h := congrArg tag h
  rcases a with a | a | a | a <;> rcases b with b | b | b | b <;>
    simp only [tag_bar, tag_send, tag_recv, tag_credit, Prod.mk.injEq, CellKind.send.injEq, CellKind.recv.injEq, CellKind.credit.injEq, reduceCtorEq, false_and, and_false] at h
  · obtain ⟨h1, -, -, h2⟩ := h
    exact congrArg Sum.inl (Prod.ext h1 (Fin.ext h2))
  · obtain ⟨h1, ⟨h2, h3⟩, h4, -⟩ := h
    have h3 := congrArg Fin.val h3
    exact congrArg (fun x => Sum.inr (Sum.inl x)) (Prod.ext h1 (Prod.ext h2 (Fin.ext (by dsimp only at h3; omega))))
  · obtain ⟨h1, ⟨h2, h3⟩, h4, -⟩ := h
    have h3 := congrArg Fin.val h3
    exact congrArg (fun x => Sum.inr (Sum.inr (Sum.inl x))) (Prod.ext h1 (Prod.ext h2 (Fin.ext (by dsimp only at h3; omega))))
  · obtain ⟨h1, h2, -, h3⟩ := h
    exact congrArg (fun x => Sum.inr (Sum.inr (Sum.inr x))) (Prod.ext h1 (Prod.ext h2 (Fin.ext h3)))

/-- Every turn there is. -/
def turns : Finset (GSem nD τ sig × ℕ × ℕ) := Finset.univ.map ⟨turnAt, turnAt_inj⟩

theorem bigSep_Ico {M : Type} [URA M] (n : ℕ) (Ψ : ℕ → sProp M) : bigSep (Finset.Ico 0 n) Ψ = bigSep Finset.univ fun t : Fin n => Ψ t.val := by
  rw [show Finset.Ico 0 n = (Finset.univ : Finset (Fin n)).map Fin.valEmbedding from by
    rw [Fin.map_valEmbedding_univ]; ext x; rw [Finset.mem_Ico, Finset.mem_Iio]; omega, bigSep_map]
  rfl
/-- A holding per device, stream and number, device by device. -/
theorem by_dev {M : Type} [URA M] (n : ℕ) (Ψ : Dev nD → Fin 4 → ℕ → sProp M) :
    (bigSep Finset.univ fun x : Dev nD × Fin 4 × Fin n => Ψ x.1 x.2.1 x.2.2.val)
      = bigSep Finset.univ fun c : Dev nD => bigSep Finset.univ fun q : Fin 4 => bigSep (Finset.Ico 0 n) (Ψ c q) := by
  rw [bigSep_univ_prod]
  refine bigSep_congr fun c _ => ?_
  rw [bigSep_univ_prod]
  exact bigSep_congr fun q _ => (bigSep_Ico n (Ψ c q)).symm
/-- Each stream's holdings handed round by a permutation of the devices. -/
theorem around (e : Fin 4 → Dev nD ≃ Dev nD) (Ψ : Dev nD → Fin 4 → sProp 𝕄) :
    (bigSep Finset.univ fun c : Dev nD => bigSep Finset.univ fun q : Fin 4 => Ψ c q)
      = bigSep Finset.univ fun c : Dev nD => bigSep Finset.univ fun q : Fin 4 => Ψ (e q c) q := by
  rw [bigSep_univ_comm, bigSep_univ_comm (fun (c : Dev nD) (q : Fin 4) => Ψ (e q c) q)]
  exact bigSep_congr fun q _ => bigSep_univ_equiv (e q) _

/-- The turns, each with the device that takes it. -/
theorem turns_dealt : bigSep turns (fun x => (dutyTok ER x.1 x.2.1 x.2.2 : sProp 𝕄))
    = iprop(((bigSep Finset.univ fun c : Dev nD => dutyTok ER (barCell (nxt c)) 0 0) ∗ (bigSep Finset.univ fun c : Dev nD => dutyTok ER (barCell (prv c)) 0 1))
      ∗ (bigSep Finset.univ fun c : Dev nD => bigSep Finset.univ fun q : Fin 4 => bigSep (Finset.Ico 0 15) fun j => dutyTok ER (sendCell c q (sl j)) (j / 3) 0)
      ∗ (bigSep Finset.univ fun c : Dev nD => bigSep Finset.univ fun q : Fin 4 => bigSep (Finset.Ico 0 15) fun j => dutyTok ER (recvCell (dst q c) q (sl (j + 1))) (j / 3) 0)
      ∗ (bigSep Finset.univ fun c : Dev nD => bigSep Finset.univ fun q : Fin 4 => bigSep (Finset.Ico 0 13) fun r => dutyTok ER (creditCell (src q c) q) 0 r)) := by
  unfold turns
  rw [bigSep_map, bigSep_univ_sum, bigSep_univ_sum, bigSep_univ_sum]
  have hb : (bigSep Finset.univ fun x : Dev nD × Fin 2 => (dutyTok ER (barCell x.1) 0 x.2.val : sProp 𝕄))
      = iprop((bigSep Finset.univ fun c : Dev nD => dutyTok ER (barCell (nxt c)) 0 0) ∗ (bigSep Finset.univ fun c : Dev nD => dutyTok ER (barCell (prv c)) 0 1)) := by
    rw [bigSep_univ_prod, bigSep_congr (Ψ := fun c : Dev nD => iprop(dutyTok ER (barCell c) 0 0 ∗ dutyTok ER (barCell c) 0 1)) fun c _ => BI.bigSep_fin_two _, bigSep_sep',
      bigSep_univ_equiv (dstE 0) (fun c : Dev nD => (dutyTok ER (barCell c) 0 0 : sProp 𝕄)), bigSep_univ_equiv (srcE 0) (fun c : Dev nD => (dutyTok ER (barCell c) 0 1 : sProp 𝕄))]
    rfl
  have hs := by_dev 15 (fun c q j => (dutyTok ER (sendCell c q (sl j)) (j / 3) 0 : sProp 𝕄))
  have hr := (by_dev 15 (fun c q j => (dutyTok ER (recvCell c q (sl (j + 1))) (j / 3) 0 : sProp 𝕄))).trans (around dstE _)
  have hc := (by_dev 13 (fun c q r => (dutyTok ER (creditCell c q) 0 r : sProp 𝕄))).trans (around srcE _)
  exact congrArg₂ _ hb (congrArg₂ _ hs (congrArg₂ _ hr hc))

/-- The turns to write a place. -/
def writeAt (x : Dev nD × Fin 4 × Fin 15) : Key × ℕ := ((x.1, x.2.1, sl (x.2.2.val + 1)), x.2.2.val / 3)
theorem writeAt_inj : Function.Injective writeAt := by
  intro a b h
  have h1 := congrArg (fun t => t.1.1) h
  have h2 := congrArg (fun t => t.1.2.1) h
  have h3 := congrArg (fun t => t.1.2.2.val) h
  have h4 := congrArg (fun t => t.2) h
  dsimp only [writeAt] at h1 h2 h3 h4
  exact Prod.ext h1 (Prod.ext h2 (Fin.ext (by omega)))
theorem writes_all : (Finset.univ : Finset Key) ×ˢ Finset.range 5 = Finset.univ.map ⟨writeAt, writeAt_inj⟩ := by
  ext ⟨⟨c, q, s⟩, r⟩
  rw [Finset.mem_product, Finset.mem_range, Finset.mem_map]
  have hs := s.isLt
  constructor
  · rintro ⟨-, h⟩
    dsimp only at h
    refine ⟨(c, q, ⟨3 * r + (s.val + 2) % 3, by omega⟩), Finset.mem_univ _, ?_⟩
    show writeAt _ = _
    unfold writeAt
    dsimp only
    refine Prod.ext (Prod.ext rfl (Prod.ext rfl (Fin.ext ?_))) ?_
    · dsimp only; omega
    · dsimp only; omega
  · rintro ⟨⟨c', q', j⟩, -, h⟩
    refine ⟨Finset.mem_univ _, ?_⟩
    have h := congrArg Prod.snd h
    change j.val / 3 = r at h
    dsimp only
    have := j.isLt
    omega
theorem writes_dealt : bigSep ((Finset.univ : Finset Key) ×ˢ Finset.range 5) (fun x => (writeTok EK x.1 (x.2 + 1) : sProp 𝕄))
    = bigSep Finset.univ fun c : Dev nD => bigSep Finset.univ fun q : Fin 4 => bigSep (Finset.Ico 0 15) fun j => writeTok EK (dst q c, q, sl (j + 1)) ((j + 3) / 3) := by
  rw [writes_all, bigSep_map]
  have h := (by_dev 15 (fun c q j => (writeTok EK (c, q, sl (j + 1)) ((j + 3) / 3) : sProp 𝕄))).trans (around dstE _)
  refine Eq.trans (bigSep_congr fun x _ => ?_) h
  show writeTok EK (x.1, x.2.1, sl (x.2.2.val + 1)) (x.2.2.val / 3 + 1) = _
  rw [show x.2.2.val / 3 + 1 = (x.2.2.val + 3) / 3 by omega]

end Cert.Proof.AG

end
-- ==== Proof.Launch.lean ====
/- The launch: the protocol set up on all devices, and the run of the whole program. -/
module

public import proofs.«01_k».proof.Proof.Deal

@[expose] public section

set_option maxRecDepth 10000

noncomputable section

namespace Cert.Proof.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The cells -/

def barEmb : Dev nD ↪ GSem nD τ sig := ⟨fun c => barCell c, fun _ _ h => congrArg (fun g : GSem nD τ sig => g.1.1) h⟩
theorem osem_inj : Function.Injective osem := by decide
theorem osem_ne_bar : ∀ k : Fin 28, osem k ≠ .reg barS := by decide
def kEmb : Dev nD × Fin 28 ↪ GSem nD τ sig :=
  ⟨kcell, fun _ _ h => Prod.ext (congrArg (fun g : GSem nD τ sig => g.1.1) h) (osem_inj (congrArg Prod.snd h))⟩

/-- The barrier cells, whose counters are at hand at launch; the kernel's own, which open in the region. -/
abbrev barCells : Finset (GSem nD τ sig) := Finset.univ.map barEmb
abbrev kCells : Finset (GSem nD τ sig) := Finset.univ.map kEmb
theorem disjoint_cells : Disjoint barCells kCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-! ## The launch element -/

abbrev uR : UT := launchOf barCells kCells turns
abbrev uK : Release.USlots Key := Release.initSlots (Finset.univ : Finset Key) 5
def u₀ : UU :=
  (initOf (Pipeline.cells (Pipeline.pin (pcfgs (F := F)) adm) cellOf_inj) (Pipeline.launchToks (Pipeline.pin (pcfgs (F := F)) adm) cellOf_inj), (uR, uK))

/-- All of a resource on device 0. -/
def onFirst (Y : sProp 𝕄) (c : Dev nD) : sProp 𝕄 := if c = 0 then Y else iprop(emp)
theorem bigSep_onFirst (Y : sProp 𝕄) : bigSep Finset.univ (onFirst Y) = Y := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp
def G : Dev nD → sProp 𝕄 := onFirst iprop(BI.own (ER uR) ∗ BI.own (EK uK))

/-! ## What each device is dealt -/

/-- The ghost state that is a device's own. -/
def linear (c : Dev nD) : sProp 𝕄 :=
  iprop(atPos ER (barCell c) 0 ∅ 0 ∗ (dutyTok ER (barCell (nxt c)) 0 0 ∗ dutyTok ER (barCell (prv c)) 0 1)
    ∗ (bigSep Finset.univ fun k : Fin 28 => openTok ER (kcell (c, k)))
    ∗ (bigSep Finset.univ fun q : Fin 4 => bigSep (Finset.Ico 0 15) fun j => dutyTok ER (sendCell c q (sl j)) (j / 3) 0)
    ∗ (bigSep Finset.univ fun q : Fin 4 => bigSep (Finset.Ico 0 15) fun j => dutyTok ER (recvCell (dst q c) q (sl (j + 1))) (j / 3) 0)
    ∗ (bigSep Finset.univ fun q : Fin 4 => bigSep (Finset.Ico 0 15) fun j => writeTok EK (dst q c, q, sl (j + 1)) ((j + 3) / 3))
    ∗ (bigSep Finset.univ fun q : Fin 4 => bigSep Finset.univ fun s : Fin 3 => readerAt EK (c, q, s) 0)
    ∗ (bigSep Finset.univ fun q : Fin 4 => bigSep (Finset.Ico 0 13) fun r => dutyTok ER (creditCell (src q c) q) 0 r))

/-- The rest of what a device starts with. -/
def bundle (c : Dev nD) : sProp 𝕄 :=
  iprop(StableHlo.held (c : Thread nD τ) bufs (V₀ m c)
    ∗ (cred (tallyAt (barCell c) 1 2) ∗ bigSep Finset.univ fun q : Fin 4 =>
        iprop(lands (F := F) c q 0 ∗ bigSep (Finset.Ico 0 13) fun r => cred (tallyAt (creditCell c q) (2 * r + 3) 1)))
    ∗ owes (c : Thread nD τ) (O₀ c) ∅ ∗ ∃ r, prngReg c r)

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₂ m c) ∗ semVal (barCell c) 0)

/-- What all devices share. -/
def shared (K : GSem nD τ sig → ℕ) (ιs : Key → ℕ) : sProp 𝕄 :=
  iprop(Inv (Xm m) K ιs ∗ bigSep Finset.univ fun c : Dev nD => reached ER (barCell c) 0)
instance shared_persistent (K : GSem nD τ sig → ℕ) (ιs : Key → ℕ) : BI.Persistent (shared m K ιs) := by unfold shared; infer_instance

theorem reached_at (c : Dev nD) : (bigSep Finset.univ fun d : Dev nD => (reached ER (barCell d) 0 : sProp 𝕄)) ⊢ reached ER (barCell c) 0 :=
  bigSep_elim (Finset.mem_univ c)

/-- A device's streams, from its ghost state and its permissions. -/
theorem kits (c : Dev nD) :
    iprop((bigSep Finset.univ fun q : Fin 4 => iprop(lands (F := F) c q 0 ∗ bigSep (Finset.Ico 0 13) fun r => cred (tallyAt (creditCell c q) (2 * r + 3) 1)))
      ∗ (bigSep Finset.univ fun q : Fin 4 => bigSep (Finset.Ico 0 15) fun j => dutyTok ER (sendCell c q (sl j)) (j / 3) 0)
      ∗ (bigSep Finset.univ fun q : Fin 4 => bigSep (Finset.Ico 0 15) fun j => dutyTok ER (recvCell (dst q c) q (sl (j + 1))) (j / 3) 0)
      ∗ (bigSep Finset.univ fun q : Fin 4 => bigSep (Finset.Ico 0 15) fun j => writeTok EK (dst q c, q, sl (j + 1)) ((j + 3) / 3))
      ∗ (bigSep Finset.univ fun q : Fin 4 => bigSep Finset.univ fun s : Fin 3 => readerAt EK (c, q, s) 0)
      ∗ (bigSep Finset.univ fun q : Fin 4 => bigSep (Finset.Ico 0 13) fun r => dutyTok ER (creditCell (src q c) q) 0 r))
    ⊢ (bigSep Finset.univ fun q : Fin 4 => kit (F := F) c q : sProp 𝕄) := by
  rw [← bigSep_sep', ← bigSep_sep', ← bigSep_sep', ← bigSep_sep', ← bigSep_sep']
  refine bigSep_mono fun q _ => ?_
  unfold kit toks0
  rw [bigSep_sep', bigSep_sep', bigSep_three]
  refine (show (iprop((_ ∗ _) ∗ _ ∗ _ ∗ _ ∗ _ ∗ _) : sProp 𝕄) ⊢ iprop(_ ∗ (_ ∗ _ ∗ _) ∗ _ ∗ _ ∗ _) from ?_)
  iintro ⟨⟨H1, H2⟩, H3, H4, H5, H6, H7⟩
  isplitl [H1]; · iexact H1
  isplitl [H3 H4 H5]
  · isplitl [H3]; · iexact H3
    isplitl [H4] <;> iassumption
  isplitl [H2]; · iexact H2
  isplitl [H6]; · iexact H6
  iexact H7

theorem T₀_intro (K : GSem nD τ sig → ℕ) (ιs : Key → ℕ) (c : Dev nD) : iprop(shared m K ιs ∗ (linear (F := F) c ∗ bundle m c)) ⊢ T₀ m c := by
  unfold bundle T₀ R Tk start shared linear barKit ow
  iintro ⟨⟨#HI, #HR⟩, ⟨Hat, ⟨Hb0, Hb1⟩, Hop, H1, H2, H3, H4, H5⟩, Hh, ⟨Hcb, Hcs⟩, HO, Hp⟩
  isplitl [Hh]; · iexact Hh
  isplitr [HO Hp]
  · isplitr [Hop]
    · iexists K; iexists ιs
      isplitr; · iexact HI
      isplitl [Hat Hb0 Hb1 Hcb]
      · isplitl [Hb0]; · iexact Hb0
        isplitl [Hb1]; · iexact Hb1
        isplitr; · iapply (reached_at (F := F) (nxt c)); iexact HR
        isplitr; · iapply (reached_at (F := F) (prv c)); iexact HR
        isplitl [Hat] <;> iassumption
      iapply (kits (F := F) c)
      isplitl [Hcs]; · iexact Hcs
      isplitl [H1]; · iexact H1
      isplitl [H2]; · iexact H2
      isplitl [H3]; · iexact H3
      isplitl [H4] <;> iassumption
    iexact Hop
  isplitl [Hp]; · iexact Hp
  iexists ∅; iexact HO

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- The cells' invariants, the slots' and the levels, as every device consults them. -/
theorem inv_intro (K : GSem nD τ sig → ℕ) (ιs : Key → ℕ) :
    iprop((bigSep (barCells ∪ kCells) fun g => cellInv ER (ringRd (Xm m)) (K g) g) ∗ (bigSep Finset.univ fun k : Key => slotInv EK (ιs k) k (slotFree (F := F) k)) ∗ levAts L lv)
      ⊢ (Inv (Xm m) K ιs : sProp 𝕄) := by
  unfold Inv
  rw [show (bigSep (barCells ∪ kCells) fun g => (cellInv ER (ringRd (Xm m)) (K g) g : sProp 𝕄))
      = iprop((bigSep Finset.univ fun c : Dev nD => cellInv ER (ringRd (Xm m)) (K (barCell c)) (barCell c))
        ∗ bigSep Finset.univ fun ck : Dev nD × Fin 28 => cellInv ER (ringRd (Xm m)) (K (kcell ck)) (kcell ck)) from by
    rw [bigSep_union disjoint_cells, bigSep_map, bigSep_map]; rfl]
  iintro ⟨⟨H1, H2⟩, H3, H4⟩
  isplitl [H1]; · iexact H1
  isplitl [H2]; · iexact H2
  isplitl [H3] <;> iassumption

theorem hcore (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G (F := F) c)
    ⊢ (iprop(bundle m c ∗ (semVal (barCell c) 0 ∗ G (F := F) c)) : sProp 𝕄) := by
  rw [show unscopedBufs c (fun b => m ((c : Thread nD τ).loc b)) = StableHlo.held (c : Thread nD τ) bufs (V₀ m c) from Pipeline.unscopedBufs_held c (V₀ m c),
    unscopedSems0_eq, creds]
  unfold bundle
  iintro ⟨Hh, Hus, HO, Hcr, Hp, HG⟩
  isplitl [Hh HO Hcr Hp]
  · isplitl [Hh]; · iexact Hh
    isplitl [Hcr]; · iexact Hcr
    isplitl [HO]; · iexact HO
    iexists (ρ c); iexact Hp
  isplitl [Hus] <;> iassumption

/-- Each device's own ghost state, out of all of it. -/
theorem linear_intro :
    iprop((bigSep barCells fun g => atPos ER g 0 ∅ 0) ∗ (bigSep kCells fun g => openTok ER g) ∗ (bigSep turns fun x => dutyTok ER x.1 x.2.1 x.2.2)
      ∗ (bigSep (Finset.univ : Finset Key) fun k => readerAt EK k 0) ∗ bigSep ((Finset.univ : Finset Key) ×ˢ Finset.range 5) fun x => writeTok EK x.1 (x.2 + 1))
    ⊢ (bigSep Finset.univ fun c : Dev nD => linear (F := F) c : sProp 𝕄) := by
  unfold linear
  rw [bigSep_sep', bigSep_sep', bigSep_sep', bigSep_sep', bigSep_sep', bigSep_sep', bigSep_sep', bigSep_sep', turns_dealt, writes_dealt, bigSep_map, bigSep_map, bigSep_univ_prod, bigSep_univ_prod,
    bigSep_congr (Φ := fun c : Dev nD => bigSep Finset.univ fun x : Fin 4 × Fin 3 => (readerAt EK (c, x) 0 : sProp 𝕄)) fun c _ => bigSep_univ_prod _]
  iintro ⟨Hat, Hop, ⟨Hb, H1, H2, H5⟩, H4, H3⟩
  isplitl [Hat]; · iexact Hat
  isplitl [Hb]; · iexact Hb
  isplitl [Hop]; · iexact Hop
  isplitl [H1]; · iexact H1
  isplitl [H2]; · iexact H2
  isplitl [H3]; · iexact H3
  isplitl [H4]; · iexact H4
  iexact H5

/-- The protocol is set up on all devices at once. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c)) ∗ levAts L lv)
      ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hr : bigSep barCells (fun g => (reached ER g 0 : sProp 𝕄)) ⊢ bigSep Finset.univ (fun c : Dev nD => (reached ER (barCell c) 0 : sProp 𝕄)) :=
    Entails.of_eq (bigSep_map (s := Finset.univ) barEmb (Φ := fun g : GSem nD τ sig => (reached ER g 0 : sProp 𝕄)))
  iintro ⟨H, #HL⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c))
      ⊢ (bigSep Finset.univ fun c : Dev nD => iprop(bundle m c ∗ (semVal (barCell c) 0 ∗ G (F := F) c)) : sProp 𝕄) from bigSep_mono fun c _ => hcore m ρ c) $$ H
  ihave H2 := (show (bigSep Finset.univ fun c : Dev nD => iprop(bundle m c ∗ (semVal (barCell c) 0 ∗ G (F := F) c)) : sProp 𝕄)
      ⊢ iprop((bigSep Finset.univ fun c : Dev nD => bundle m c) ∗ (bigSep Finset.univ fun c : Dev nD => semVal (barCell c) 0) ∗ (BI.own (ER uR) ∗ BI.own (EK uK))) from by
    rw [bigSep_sep', bigSep_sep', show (bigSep Finset.univ fun c : Dev nD => G (F := F) c) = _ from bigSep_onFirst _]) $$ H'
  icases H2 with ⟨HB, Hv, Hu, Hk⟩
  imod (Rounds.fund_launch ER (ringRd (Xm m)) disjoint_cells (fun g _ h => h) turns) $$ [Hv Hu] with ⟨%K, -, #Hinv, #Hr, Hat, Hopen, Htok⟩
  · isplitl [Hv]
    · iapply hv; iexact Hv
    · iexact Hu
  imod (Release.slots_init EK (Finset.univ : Finset Key) 5 (fun k => slotFree (F := F) k)) $$ Hk with ⟨%ιs, -, #Hsl, Hrd, Hwr⟩
  imodintro
  iapply (bigSep_with_persistent (R := shared m K ιs) (Φ := fun c => iprop(linear (F := F) c ∗ bundle m c)) fun c _ => T₀_intro m K ιs c)
  isplitr
  · unfold shared
    isplitr
    · iapply (inv_intro m K ιs)
      isplitr; · iexact Hinv
      isplitr; · iexact Hsl
      iexact HL
    iapply hr; iexact Hr
  rw [bigSep_sep']
  isplitr [HB]
  · iapply (linear_intro (F := F))
    isplitl [Hat]; · iexact Hat
    isplitl [Hopen]; · iexact Hopen
    isplitl [Htok]; · iexact Htok
    isplitl [Hrd]; · iexact Hrd
    iexact Hwr
  · iexact HB

/-! ## The run -/

theorem unscoped_eq : ∀ sm : SemLoc sig, sm.isScoped .tc = false → sm = .reg barS := by decide

theorem held_bufs (c : Dev nD) (V : Valuation τ sig (Elt F)) : (StableHlo.held (c : Thread nD τ) bufs V : sProp 𝕄)
    = iprop((((c : Thread nD τ).loc main_arg0) ↦{fullShare} V (Proc.devRef .tc main_arg0)) ∗ (((c : Thread nD τ).loc main_arg1) ↦{fullShare} V (Proc.devRef .tc main_arg1))
      ∗ (((c : Thread nD τ).loc main_v1) ↦{fullShare} V (Proc.devRef .tc main_v1)) ∗ (((c : Thread nD τ).loc main_c) ↦{fullShare} V (Proc.devRef .tc main_c))) := by
  unfold StableHlo.held
  rw [bigSep_eq_bigSepL_of_eq [Proc.devRef .tc main_arg0, Proc.devRef .tc main_arg1, Proc.devRef .tc main_v1, Proc.devRef .tc main_c] (by decide) (by decide)]
  rfl

set_option backward.isDefEq.respectTransparency.types false in
/-- From any memory with zero counters every run of @main on the devices ends, and every final state has the arguments
    unchanged, the result `Om` on each device, and every semaphore counter of the machine at zero. -/
theorem run_main : θ_run defs (onTc (τ := τ) (main (F := F))) (s₀ m ρ)
    (fun r => (∀ c : Dev nD, r.2.mem ((c : Thread nD τ).loc main_v1) = Om m c ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  Pipeline.θ_run_regions_kit_sems (pcfgs (F := F)) adm (pdats m) (0 : ℕ) cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      ihave HX := (own_pair_emb (ET (F := F)) uR uK) $$ HX
      imodintro
      isplitl [HP]; · iexact HP
      rw [bigSep_onFirst]; iexact HX)
    (T₀ := T₀ m) (Tₙ := Tₙ m)
    (hch := ⟨fun c => .rfl, fun c => reg_pre m c, fun c => reg_post m c⟩)
    (hinit := init m ρ)
    (QY := fun c s => (s.mem ((Memref.whole main_arg0).view.loc (c : Thread nD τ)) = V₂ m c (Proc.devRef .tc main_arg0)
        ∧ s.mem ((Memref.whole main_arg1).view.loc (c : Thread nD τ)) = V₂ m c (Proc.devRef .tc main_arg1)
        ∧ s.mem ((Memref.whole main_v1).view.loc (c : Thread nD τ)) = V₂ m c (Proc.devRef .tc main_v1))
      ∧ s.sem (barCell c) = 0)
    (hfin := fun c s' => by
      dsimp only [Tₙ]; rw [held_bufs]
      iintro ⟨⟨⟨Hx, Hw, Ho, -⟩, Hb0⟩, HSI⟩
      icombine HSI Hx gives %hx
      icombine HSI Hw gives %hw
      icombine HSI Ho gives %ho
      icombine HSI Hb0 gives %hb
      imodintro
      isplitr
      · ipureintro
        exact ⟨⟨Buf.eq_of_forall_mem_univ hx, Buf.eq_of_forall_mem_univ hw, Buf.eq_of_forall_mem_univ ho⟩, by simpa using hb⟩
      iexact HSI)
    (hQ := fun s h hs => ⟨fun c => by
        obtain ⟨⟨hx, hw, ho⟩, -⟩ := h c
        rw [V₂_x, V₁_x] at hx; rw [V₂_w, V₁_w] at hw; rw [V₂_o] at ho
        exact ⟨ho, hx, hw⟩,
      sem_eq_zero hs fun c sm hsm => by
        obtain rfl := unscoped_eq sm hsm
        exact (h c).2⟩)

end Cert.Proof.AG

end
-- ==== Proof.Same.lean ====
/- The kernel and its idealization have the same text: their body tables and their @main are equal. -/
module

public import proofs.«01_k».proof.Defs
public import proofs.«01_k».proof.Proof.Gen.Kernel
public import proofs.«01_k».proof.Proof.Gen.KernelIdeal

@[expose] public section

set_option maxRecDepth 10000

noncomputable section

namespace Cert.Proof.Same

open Idealize.ShloMosaic

variable {F : FTy → Type} [FloatOps F]

/-- The two kernels' bodies, at any operands; -/
theorem body_eq : Cert.Kernel.cc0_body (F := F) = Cert.KernelIdeal.cc0_body (F := F) := rfl
/-- their body tables, label by label; -/
theorem defs₀_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) =>
    dsimp only
    rw [body_eq]
/-- with the pipelines' own labels; -/
theorem defs_eq : Cert.Kernel.defs (F := F) = Cert.KernelIdeal.defs (F := F) := by
  unfold Cert.Kernel.defs Cert.KernelIdeal.defs
  rw [defs₀_eq]
  rfl
/-- and the two programs' @main. -/
theorem main_eq : Cert.Kernel.main (F := F) = Cert.KernelIdeal.main (F := F) := rfl

end Cert.Proof.Same

end
-- ==== Proof.Value.lean ====
/- What the kernel computes at the ideal values: each device's result is its block of the reference's result. -/
module

public import proofs.«01_k».proof.Proof.Segs
public import proofs.«01_k».proof.Proof.Gen.ReferenceIdeal.Run
public import Idealize.ShloMosaic.Lib.MatmulPlain
public import Idealize.ShloMosaic.Lib.StackMember
public import Idealize.ShloMosaic.Lib.IdealHost
public import Idealize.ShloMosaic.Lib.Layout

@[expose] public section

set_option maxRecDepth 10000

noncomputable section

namespace Cert.Proof.AG

open Cert.KernelIdeal Cert.KernelIdeal.Gen
open Idealize.ShloMosaic Idealize.ShloMosaic.ValueIdx

/-! ## The activation -/

/-- The activation as the reference states it: `y / (1 + exp (-y))`. -/
def silu (y : EReal) : EReal := Ideal.div y (1 + Ideal.exp (-y))

theorem exp_nonneg (y : EReal) : 0 ≤ Ideal.exp y := by
  induction y with
  | bot => simp
  | top => simp
  | coe r => rw [Ideal.exp_coe]; exact_mod_cast (Real.exp_pos r).le

theorem one_add_exp_ne_zero (y : EReal) : (1 : EReal) + Ideal.exp y ≠ 0 :=
  (lt_of_lt_of_le zero_lt_one (le_add_of_nonneg_right (exp_nonneg y))).ne'

/-- The product with the reciprocal, which the kernel takes, is the quotient, infinities included. -/
theorem silu_kernel (y : EReal) : y * Ideal.div 1 (1 + Ideal.exp (0 - y)) = silu y := by
  have h := one_add_exp_ne_zero (-y)
  rw [silu, zero_sub, Ideal.div, Ideal.div, if_neg h, if_neg h, one_mul]

/-! ## The kernel's rows -/

theorem dot_kernel : dot_S128x8192_S8192x256_S128x256_1_0_0_1_n_n = DotDims.plain 128 8192 256 := rfl

/-- A chunk at row `r` and column `l`: the activation of the row of the block times the column of the weights. -/
theorem pay_apply (x : Vec Ideal S512x8192 .bf16) (w : Vec Ideal S8192x256 .bf16) (q : Fin 4) (r : Fin 128) (l : Fin 256) :
    k0_pay11 (blk x q) (k0_pay10 w) (ix2 r l) = silu (∑ k : Fin 8192, x ((rowsRect q).emb (ix2 r k)) * w (ix2 k l)) := by
  have e : shapeCast S128x8192 (blk x q) shapeCasts_S1x1x128x8192_S128x8192 = rows x q := by
    unfold blk k0_pay6
    rw [shapeCast_self, shapeCast_shapeCast]
  have ew : k0_pay10 (F := Ideal) w = w := by
    unfold k0_pay10
    rw [shapeCast_self]
    exact shapeCast_self w _
  have em : matmul (φ₁ := .bf16) (φ₂ := .bf16) dot_S128x8192_S8192x256_S128x256_1_0_0_1_n_n none (rows x q) w (constant (F := Ideal) S128x256 .f32 0x00000000#32) (ix2 r l)
      = ∑ k : Fin 8192, x ((rowsRect q).emb (ix2 r k)) * w (ix2 k l) := by
    rw [dot_kernel]
    refine (Ideal.matmul_plain_apply (φ₁ := .bf16) (φ₂ := .bf16) none (rows x q) w _ r l).trans ?_
    show Ideal.ofBits .f32 0x00000000#32 + _ = _
    rw [Ideal.ofBits_zero_f32, zero_add]
    rfl
  rw [← em, ew, ← silu_kernel]
  unfold k0_pay11
  rw [e]
  show _ * Ideal.div (Ideal.ofBits .f32 0x3F800000#32) (Ideal.ofBits .f32 0x3F800000#32 + Ideal.exp (Ideal.ofBits .f32 0x00000000#32 - _)) = _
  rw [Ideal.ofBits_one_f32, Ideal.ofBits_zero_f32]

/-! ## The reference -/

/-- The reference's whole result, of its whole arguments. -/
def refOut (A : FVec Ideal Cert.ReferenceIdeal.S8192x8192 .bf16) (B : FVec Ideal Cert.ReferenceIdeal.S8192x4096 .bf16) :
    FVec Ideal Cert.ReferenceIdeal.S8192x4096 .f32 :=
  Host.divf (Host.dotGeneral Cert.ReferenceIdeal.dot_S8192x8192_S8192x4096_S8192x4096_1_0_0_1_n_n none (extf .f32 A Cert.ReferenceIdeal.Gen.bitsLt_bf16_f32) (extf .f32 B Cert.ReferenceIdeal.Gen.bitsLt_bf16_f32))
    (addf (broadcastInDim Cert.ReferenceIdeal.S8192x4096 ![] Cert.ReferenceIdeal.Gen.bcast_S_S8192x4096 (constant (F := Ideal) Cert.ReferenceIdeal.S_ .f32 0x3F800000#32))
      (Host.exp (Host.negf (Host.dotGeneral Cert.ReferenceIdeal.dot_S8192x8192_S8192x4096_S8192x4096_1_0_0_1_n_n none (extf .f32 A Cert.ReferenceIdeal.Gen.bitsLt_bf16_f32) (extf .f32 B Cert.ReferenceIdeal.Gen.bitsLt_bf16_f32)))))

theorem dot_reference : Cert.ReferenceIdeal.dot_S8192x8192_S8192x4096_S8192x4096_1_0_0_1_n_n = DotDims.plain 8192 8192 4096 := rfl

/-- The reference's result at row `r` and column `l`: the activation of the row of `x` times the column of the weights. -/
theorem refOut_apply (A : FVec Ideal Cert.ReferenceIdeal.S8192x8192 .bf16) (B : FVec Ideal Cert.ReferenceIdeal.S8192x4096 .bf16) (r : Fin 8192) (l : Fin 4096) :
    refOut A B (ix2 r l) = silu (∑ k : Fin 8192, A (ix2 r k) * B (ix2 k l)) := by
  have em : Host.dotGeneral (F := Ideal) Cert.ReferenceIdeal.dot_S8192x8192_S8192x4096_S8192x4096_1_0_0_1_n_n none
        (extf .f32 A Cert.ReferenceIdeal.Gen.bitsLt_bf16_f32) (extf .f32 B Cert.ReferenceIdeal.Gen.bitsLt_bf16_f32) (ix2 r l)
      = ∑ k : Fin 8192, A (ix2 r k) * B (ix2 k l) := by
    rw [dot_reference]
    exact StackMember.dotGeneral_plain_apply none (extf .f32 A Cert.ReferenceIdeal.Gen.bitsLt_bf16_f32) (extf .f32 B Cert.ReferenceIdeal.Gen.bitsLt_bf16_f32) r l
  rw [← em]
  unfold refOut silu
  show Ideal.div _ (Ideal.ofBits .f32 0x3F800000#32 + Ideal.exp (-_)) = _
  rw [Ideal.ofBits_one_f32]

/-! ## The two, block by block -/

/-- With device `o`'s block of rows of `A` and block of columns of `B` on each device, device `c` ends with its block of
    columns of the reference's result. -/
theorem outFin_block (A : FVec Ideal Cert.ReferenceIdeal.S8192x8192 .bf16) (B : FVec Ideal Cert.ReferenceIdeal.S8192x4096 .bf16)
    (X : Dev nD → Vec Ideal S512x8192 .bf16) (W : Dev nD → Vec Ideal S8192x256 .bf16)
    (hX : ∀ o : Dev nD, X o = Layout.block ⟨2, ![512, 8192]⟩ ⟨2, ![8192, 8192]⟩ 0 16 o A)
    (hW : ∀ o : Dev nD, W o = Layout.block ⟨2, ![8192, 256]⟩ ⟨2, ![8192, 4096]⟩ 1 16 o B) (c : Dev nD) :
    outFin X W c = Layout.block ⟨2, ![8192, 256]⟩ ⟨2, ![8192, 4096]⟩ 1 16 c (refOut A B) := by
  funext i
  have h0 : (i 0).val < 8192 := (i 0).isLt
  have h1 : (i 1).val < 256 := (i 1).isLt
  have hc : c.val < 16 := c.isLt
  have er : rowAt i = ix2 (⟨(i 0).val % 128, Nat.mod_lt _ (by decide)⟩ : Fin 128) (⟨(i 1).val, h1⟩ : Fin 256) := by
    funext a; fin_cases a <;> rfl
  have eb : (show Layout.Tiles ⟨2, ![8192, 256]⟩ ⟨2, ![8192, 4096]⟩ 1 16 by decide).idx c i
      = ix2 (⟨(i 0).val, h0⟩ : Fin 8192) (⟨c.val * 256 + (i 1).val, by omega⟩ : Fin 4096) := by
    funext a; fin_cases a <;> rfl
  rw [Layout.block_apply, eb, refOut_apply]
  unfold outFin chunk
  rw [er, pay_apply, hX, hW]
  refine congrArg silu (Finset.sum_congr rfl fun k _ => ?_)
  rw [Layout.block_apply, Layout.block_apply]
  congr 2
  · congr 1
    funext a
    refine Fin.ext ?_
    fin_cases a
    · show (i 0).val / 512 * 512 + ((i 0).val / 128 % 4 * 128 + 1 * ((i 0).val % 128)) = (i 0).val
      omega
    · show 0 + 1 * k.val = k.val
      omega
  · funext a; fin_cases a <;> rfl

end Cert.Proof.AG

end
-- ==== Proof.lean ====
module

public import proofs.«01_k».proof.Defs
public import proofs.«01_k».proof.Proof.Gen.Kernel
public import proofs.«01_k».proof.Proof.Gen.ReferenceIdeal.Run
public import proofs.«01_k».proof.Proof.Launch
public import proofs.«01_k».proof.Proof.Same
public import proofs.«01_k».proof.Proof.Value
public import Idealize.ShloMosaic.Lib.Quiescent

@[expose] public section

set_option maxRecDepth 10000

noncomputable section

namespace Cert.Proof

open Idealize.ShloMosaic Idealize.SL.Sem

/-- The idealization: every run ends, its arguments unchanged and every counter at zero. -/
theorem frame_ideal : Cert.quiescent_KernelIdeal := fun m ρ _ =>
  (θ_run Cert.KernelIdeal.defs _ _).mono (fun _ h => ⟨fun c => (h.1 c).2, h.2⟩) (AG.run_main (F := Ideal) m ρ)

/-- The same of the kernel as written, whose text is its idealization's. -/
theorem frame_kernel : Cert.quiescent_Kernel := fun m ρ _ => by
  rw [Same.defs_eq, Same.main_eq]
  exact (θ_run Cert.KernelIdeal.defs _ _).mono (fun _ h => ⟨fun c => (h.1 c).2, h.2⟩) (AG.run_main (F := Bits) m ρ)

/-- The same of the reference, which has no semaphore. -/
theorem frame_reference : Cert.quiescent_ReferenceIdeal := fun m ρ _ =>
  (θ_run Cert.ReferenceIdeal.defs _ _).mono (fun _ h => ⟨fun c => (h c).2, sem_eq_zero_of_no_sems (by decide) _⟩)
    (Cert.ReferenceIdeal.Value.run (F := Ideal) m ρ)

/-- At the ideal values each device ends with its block of columns of the reference's result. -/
theorem value : Cert.algebraic_KernelIdeal_ReferenceIdeal := fun m ρ m' ρ' _ hin =>
  ⟨AG.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).1.trans (AG.outFin_block _ _ (AG.Xm m) (AG.Wm m) (fun o => (hin o).1) (fun o => (hin o).2) c), (h.1 c).2⟩)
      (AG.run_main (F := Ideal) m ρ),
    (θ_run Cert.ReferenceIdeal.defs _ _).mono (fun _ h => h 0) (Cert.ReferenceIdeal.Value.run (F := Ideal) m' ρ')⟩

/-- All the claims. -/
theorem claim : Cert.Claim :=
  ⟨Cert.Kernel.Gen.facts, Cert.KernelIdeal.Gen.facts, Cert.ReferenceIdeal.Gen.facts, frame_kernel, frame_ideal, frame_reference, trivial, value⟩

end Cert.Proof

end
